-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x512x512 : Shape := ⟨4, ![64, 3, 512, 512]⟩
abbrev S512x16 : Shape := ⟨2, ![512, 16]⟩
abbrev S_ : Shape := ⟨0, ![]⟩
abbrev S64x2x16x16 : Shape := ⟨4, ![64, 2, 16, 16]⟩
abbrev S4x2x512x512 : Shape := ⟨4, ![4, 2, 512, 512]⟩
abbrev S4x2x16x16 : Shape := ⟨4, ![4, 2, 16, 16]⟩
abbrev S128x32x512 : Shape := ⟨3, ![128, 32, 512]⟩
abbrev S128x512 : Shape := ⟨2, ![128, 512]⟩
abbrev S128x16 : Shape := ⟨2, ![128, 16]⟩
abbrev S64x512 : Shape := ⟨2, ![64, 512]⟩
abbrev S64x256 : Shape := ⟨2, ![64, 256]⟩
abbrev S512 : Shape := ⟨1, ![512]⟩
abbrev S256 : Shape := ⟨1, ![256]⟩
abbrev S1x512 : Shape := ⟨2, ![1, 512]⟩
abbrev S16 : Shape := ⟨1, ![16]⟩
abbrev S1x256 : Shape := ⟨2, ![1, 256]⟩
abbrev S64 : Shape := ⟨1, ![64]⟩
abbrev S64x1 : Shape := ⟨2, ![64, 1]⟩

abbrev nBuf : Table → Nat
  | .hbm => 30
  | .local .tc .vmem => 5
  | .local .scVector .vmem => 3
  | _ => 0

abbrev bufTy : (tb : Table) → Fin (nBuf tb) → BufTy
  | .hbm, ⟨0, _⟩ => ⟨S64x3x512x512, .f32⟩
  | .hbm, ⟨1, _⟩ => ⟨S512x16, .i32⟩
  | .hbm, ⟨2, _⟩ => ⟨S_, .i32⟩
  | .hbm, ⟨3, _⟩ => ⟨S_, .i32⟩
  | .hbm, ⟨4, _⟩ => ⟨S512x16, .i32⟩
  | .hbm, ⟨5, _⟩ => ⟨S512x16, .i32⟩
  | .hbm, ⟨6, _⟩ => ⟨S512x16, .i32⟩
  | .hbm, ⟨7, _⟩ => ⟨S_, .i32⟩
  | .hbm, ⟨8, _⟩ => ⟨S512x16, .i32⟩
  | .hbm, ⟨9, _⟩ => ⟨S512x16, .i1⟩
  | .hbm, ⟨10, _⟩ => ⟨S512x16, .i32⟩
  | .hbm, ⟨11, _⟩ => ⟨S512x16, .i32⟩
  | .hbm, ⟨12, _⟩ => ⟨S_, .i32⟩
  | .hbm, ⟨13, _⟩ => ⟨S512x16, .i32⟩
  | .hbm, ⟨14, _⟩ => ⟨S512x16, .i1⟩
  | .hbm, ⟨15, _⟩ => ⟨S512x16, .i1⟩
  | .hbm, ⟨16, _⟩ => ⟨S_, .i32⟩
  | .hbm, ⟨17, _⟩ => ⟨S512x16, .i32⟩
  | .hbm, ⟨18, _⟩ => ⟨S512x16, .i32⟩
  | .hbm, ⟨19, _⟩ => ⟨S512x16, .i32⟩
  | .hbm, ⟨20, _⟩ => ⟨S512x16, .i32⟩
  | .hbm, ⟨21, _⟩ => ⟨S512x16, .i1⟩
  | .hbm, ⟨22, _⟩ => ⟨S512x16, .bf16⟩
  | .hbm, ⟨23, _⟩ => ⟨S64x2x16x16, .f32⟩
  | .hbm, ⟨24, _⟩ => ⟨S64x512, .f32⟩
  | .hbm, ⟨25, _⟩ => ⟨S64x256, .i32⟩
  | .hbm, ⟨26, _⟩ => ⟨S64x256, .i32⟩
  | .hbm, ⟨27, _⟩ => ⟨S64, .i32⟩
  | .hbm, ⟨28, _⟩ => ⟨S64x1, .i32⟩
  | .hbm, ⟨29, _⟩ => ⟨S64x256, .i32⟩
  | .local .tc .vmem, ⟨0, _⟩ => ⟨S4x2x512x512, .f32⟩
  | .local .tc .vmem, ⟨1, _⟩ => ⟨S4x2x512x512, .f32⟩
  | .local .tc .vmem, ⟨2, _⟩ => ⟨S512x16, .bf16⟩
  | .local .tc .vmem, ⟨3, _⟩ => ⟨S4x2x16x16, .f32⟩
  | .local .tc .vmem, ⟨4, _⟩ => ⟨S4x2x16x16, .f32⟩
  | .local .scVector .vmem, ⟨0, _⟩ => ⟨S512, .f32⟩
  | .local .scVector .vmem, ⟨1, _⟩ => ⟨S256, .i32⟩
  | .local .scVector .vmem, ⟨2, _⟩ => ⟨S256, .i32⟩
  | _, _ => ⟨S64x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v6_scv : Ref sig .scVector := ⟨.hbm, 24, rfl⟩
abbrev main_v7_0_scv : Ref sig .scVector := ⟨.hbm, 25, rfl⟩
abbrev main_v7_1_scv : Ref sig .scVector := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x2x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c0_i32_665_r0 : BitVec 32 := 0#32
  ![v3.toNat, 0]

def k1_chk1 (v354 : IVec S16 32) : Prop :=
  (∀ a x, ((![v354] : Fin 1 → IVec S16 32) a x).toNat < S256.size a)
theorem k1_idx1_inb : ∀ (v354 : IVec S16 32) (k1_hw1 : k1_chk1 v354), ∀ a x, ((![v354] : Fin 1 → IVec S16 32) a x).toNat < S256.size a := fun v354 k1_hw1 => k1_hw1

def k1_chk2 (v400 : IVec S16 32) : Prop :=
  (∀ a x, ((![v400] : Fin 1 → IVec S16 32) a x).toNat < S256.size a)
theorem k1_idx2_inb : ∀ (v400 : IVec S16 32) (k1_hw2 : k1_chk2 v400), ∀ a x, ((![v400] : Fin 1 → IVec S16 32) a x).toNat < S256.size a := fun v400 k1_hw2 => k1_hw2

def k1_chk3 (v446 : IVec S16 32) : Prop :=
  (∀ a x, ((![v446] : Fin 1 → IVec S16 32) a x).toNat < S256.size a)
theorem k1_idx3_inb : ∀ (v446 : IVec S16 32) (k1_hw3 : k1_chk3 v446), ∀ a x, ((![v446] : Fin 1 → IVec S16 32) a x).toNat < S256.size a := fun v446 k1_hw3 => k1_hw3

def k1_chk4 (v492 : IVec S16 32) : Prop :=
  (∀ a x, ((![v492] : Fin 1 → IVec S16 32) a x).toNat < S256.size a)
theorem k1_idx4_inb : ∀ (v492 : IVec S16 32) (k1_hw4 : k1_chk4 v492), ∀ a x, ((![v492] : Fin 1 → IVec S16 32) a x).toNat < S256.size a := fun v492 k1_hw4 => k1_hw4

def k1_chk5 (v538 : IVec S16 32) : Prop :=
  (∀ a x, ((![v538] : Fin 1 → IVec S16 32) a x).toNat < S256.size a)
theorem k1_idx5_inb : ∀ (v538 : IVec S16 32) (k1_hw5 : k1_chk5 v538), ∀ a x, ((![v538] : Fin 1 → IVec S16 32) a x).toNat < S256.size a := fun v538 k1_hw5 => k1_hw5

def k1_chk6 (v584 : IVec S16 32) : Prop :=
  (∀ a x, ((![v584] : Fin 1 → IVec S16 32) a x).toNat < S256.size a)
theorem k1_idx6_inb : ∀ (v584 : IVec S16 32) (k1_hw6 : k1_chk6 v584), ∀ a x, ((![v584] : Fin 1 → IVec S16 32) a x).toNat < S256.size a := fun v584 k1_hw6 => k1_hw6

def k1_chk7 (v630 : IVec S16 32) : Prop :=
  (∀ a x, ((![v630] : Fin 1 → IVec S16 32) a x).toNat < S256.size a)
theorem k1_idx7_inb : ∀ (v630 : IVec S16 32) (k1_hw7 : k1_chk7 v630), ∀ a x, ((![v630] : Fin 1 → IVec S16 32) a x).toNat < S256.size a := fun v630 k1_hw7 => k1_hw7

def k1_chk8 (v676 : IVec S16 32) : Prop :=
  (∀ a x, ((![v676] : Fin 1 → IVec S16 32) a x).toNat < S256.size a)
theorem k1_idx8_inb : ∀ (v676 : IVec S16 32) (k1_hw8 : k1_chk8 v676), ∀ a x, ((![v676] : Fin 1 → IVec S16 32) a x).toNat < S256.size a := fun v676 k1_hw8 => k1_hw8

def k1_chk9 (v722 : IVec S16 32) : Prop :=
  (∀ a x, ((![v722] : Fin 1 → IVec S16 32) a x).toNat < S256.size a)
theorem k1_idx9_inb : ∀ (v722 : IVec S16 32) (k1_hw9 : k1_chk9 v722), ∀ a x, ((![v722] : Fin 1 → IVec S16 32) a x).toNat < S256.size a := fun v722 k1_hw9 => k1_hw9

def k1_chk10 (v768 : IVec S16 32) : Prop :=
  (∀ a x, ((![v768] : Fin 1 → IVec S16 32) a x).toNat < S256.size a)
theorem k1_idx10_inb : ∀ (v768 : IVec S16 32) (k1_hw10 : k1_chk10 v768), ∀ a x, ((![v768] : Fin 1 → IVec S16 32) a x).toNat < S256.size a := fun v768 k1_hw10 => k1_hw10

def k1_chk11 (v814 : IVec S16 32) : Prop :=
  (∀ a x, ((![v814] : Fin 1 → IVec S16 32) a x).toNat < S256.size a)
theorem k1_idx11_inb : ∀ (v814 : IVec S16 32) (k1_hw11 : k1_chk11 v814), ∀ a x, ((![v814] : Fin 1 → IVec S16 32) a x).toNat < S256.size a := fun v814 k1_hw11 => k1_hw11

def k1_chk12 (v860 : IVec S16 32) : Prop :=
  (∀ a x, ((![v860] : Fin 1 → IVec S16 32) a x).toNat < S256.size a)
theorem k1_idx12_inb : ∀ (v860 : IVec S16 32) (k1_hw12 : k1_chk12 v860), ∀ a x, ((![v860] : Fin 1 → IVec S16 32) a x).toNat < S256.size a := fun v860 k1_hw12 => k1_hw12

def k1_chk13 (v906 : IVec S16 32) : Prop :=
  (∀ a x, ((![v906] : Fin 1 → IVec S16 32) a x).toNat < S256.size a)
theorem k1_idx13_inb : ∀ (v906 : IVec S16 32) (k1_hw13 : k1_chk13 v906), ∀ a x, ((![v906] : Fin 1 → IVec S16 32) a x).toNat < S256.size a := fun v906 k1_hw13 => k1_hw13

def k1_chk14 (v952 : IVec S16 32) : Prop :=
  (∀ a x, ((![v952] : Fin 1 → IVec S16 32) a x).toNat < S256.size a)
theorem k1_idx14_inb : ∀ (v952 : IVec S16 32) (k1_hw14 : k1_chk14 v952), ∀ a x, ((![v952] : Fin 1 → IVec S16 32) a x).toNat < S256.size a := fun v952 k1_hw14 => k1_hw14

def k1_chk15 (v998 : IVec S16 32) : Prop :=
  (∀ a x, ((![v998] : Fin 1 → IVec S16 32) a x).toNat < S256.size a)
theorem k1_idx15_inb : ∀ (v998 : IVec S16 32) (k1_hw15 : k1_chk15 v998), ∀ a x, ((![v998] : Fin 1 → IVec S16 32) a x).toNat < S256.size a := fun v998 k1_hw15 => k1_hw15

def k1_chk16 (v1044 : IVec S16 32) : Prop :=
  (∀ a x, ((![v1044] : Fin 1 → IVec S16 32) a x).toNat < S256.size a)
theorem k1_idx16_inb : ∀ (v1044 : IVec S16 32) (k1_hw16 : k1_chk16 v1044), ∀ a x, ((![v1044] : Fin 1 → IVec S16 32) a x).toNat < S256.size a := fun v1044 k1_hw16 => k1_hw16
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c0_i32_665_r1 : BitVec 32 := 0#32
  ![v3.toNat, 0]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_308 : BitVec 32 := 2#32
  let v1061 : BitVec 32 := Scalar.muli v1 c2_i32_308
  let c1_i32 : BitVec 32 := 1#32
  let v1062 : BitVec 32 := Scalar.addi v1061 c1_i32
  let c0_i32_665_r3 : BitVec 32 := 0#32
  ![v1062.toNat, 0]

def k1_chk17 (v1413 : IVec S16 32) : Prop :=
  (∀ a x, ((![v1413] : Fin 1 → IVec S16 32) a x).toNat < S256.size a)
theorem k1_idx17_inb : ∀ (v1413 : IVec S16 32) (k1_hw17 : k1_chk17 v1413), ∀ a x, ((![v1413] : Fin 1 → IVec S16 32) a x).toNat < S256.size a := fun v1413 k1_hw17 => k1_hw17

def k1_chk18 (v1459 : IVec S16 32) : Prop :=
  (∀ a x, ((![v1459] : Fin 1 → IVec S16 32) a x).toNat < S256.size a)
theorem k1_idx18_inb : ∀ (v1459 : IVec S16 32) (k1_hw18 : k1_chk18 v1459), ∀ a x, ((![v1459] : Fin 1 → IVec S16 32) a x).toNat < S256.size a := fun v1459 k1_hw18 => k1_hw18

def k1_chk19 (v1505 : IVec S16 32) : Prop :=
  (∀ a x, ((![v1505] : Fin 1 → IVec S16 32) a x).toNat < S256.size a)
theorem k1_idx19_inb : ∀ (v1505 : IVec S16 32) (k1_hw19 : k1_chk19 v1505), ∀ a x, ((![v1505] : Fin 1 → IVec S16 32) a x).toNat < S256.size a := fun v1505 k1_hw19 => k1_hw19

def k1_chk20 (v1551 : IVec S16 32) : Prop :=
  (∀ a x, ((![v1551] : Fin 1 → IVec S16 32) a x).toNat < S256.size a)
theorem k1_idx20_inb : ∀ (v1551 : IVec S16 32) (k1_hw20 : k1_chk20 v1551), ∀ a x, ((![v1551] : Fin 1 → IVec S16 32) a x).toNat < S256.size a := fun v1551 k1_hw20 => k1_hw20

def k1_chk21 (v1597 : IVec S16 32) : Prop :=
  (∀ a x, ((![v1597] : Fin 1 → IVec S16 32) a x).toNat < S256.size a)
theorem k1_idx21_inb : ∀ (v1597 : IVec S16 32) (k1_hw21 : k1_chk21 v1597), ∀ a x, ((![v1597] : Fin 1 → IVec S16 32) a x).toNat < S256.size a := fun v1597 k1_hw21 => k1_hw21

def k1_chk22 (v1643 : IVec S16 32) : Prop :=
  (∀ a x, ((![v1643] : Fin 1 → IVec S16 32) a x).toNat < S256.size a)
theorem k1_idx22_inb : ∀ (v1643 : IVec S16 32) (k1_hw22 : k1_chk22 v1643), ∀ a x, ((![v1643] : Fin 1 → IVec S16 32) a x).toNat < S256.size a := fun v1643 k1_hw22 => k1_hw22

def k1_chk23 (v1689 : IVec S16 32) : Prop :=
  (∀ a x, ((![v1689] : Fin 1 → IVec S16 32) a x).toNat < S256.size a)
theorem k1_idx23_inb : ∀ (v1689 : IVec S16 32) (k1_hw23 : k1_chk23 v1689), ∀ a x, ((![v1689] : Fin 1 → IVec S16 32) a x).toNat < S256.size a := fun v1689 k1_hw23 => k1_hw23

def k1_chk24 (v1735 : IVec S16 32) : Prop :=
  (∀ a x, ((![v1735] : Fin 1 → IVec S16 32) a x).toNat < S256.size a)
theorem k1_idx24_inb : ∀ (v1735 : IVec S16 32) (k1_hw24 : k1_chk24 v1735), ∀ a x, ((![v1735] : Fin 1 → IVec S16 32) a x).toNat < S256.size a := fun v1735 k1_hw24 => k1_hw24

def k1_chk25 (v1781 : IVec S16 32) : Prop :=
  (∀ a x, ((![v1781] : Fin 1 → IVec S16 32) a x).toNat < S256.size a)
theorem k1_idx25_inb : ∀ (v1781 : IVec S16 32) (k1_hw25 : k1_chk25 v1781), ∀ a x, ((![v1781] : Fin 1 → IVec S16 32) a x).toNat < S256.size a := fun v1781 k1_hw25 => k1_hw25

def k1_chk26 (v1827 : IVec S16 32) : Prop :=
  (∀ a x, ((![v1827] : Fin 1 → IVec S16 32) a x).toNat < S256.size a)
theorem k1_idx26_inb : ∀ (v1827 : IVec S16 32) (k1_hw26 : k1_chk26 v1827), ∀ a x, ((![v1827] : Fin 1 → IVec S16 32) a x).toNat < S256.size a := fun v1827 k1_hw26 => k1_hw26

def k1_chk27 (v1873 : IVec S16 32) : Prop :=
  (∀ a x, ((![v1873] : Fin 1 → IVec S16 32) a x).toNat < S256.size a)
theorem k1_idx27_inb : ∀ (v1873 : IVec S16 32) (k1_hw27 : k1_chk27 v1873), ∀ a x, ((![v1873] : Fin 1 → IVec S16 32) a x).toNat < S256.size a := fun v1873 k1_hw27 => k1_hw27

def k1_chk28 (v1919 : IVec S16 32) : Prop :=
  (∀ a x, ((![v1919] : Fin 1 → IVec S16 32) a x).toNat < S256.size a)
theorem k1_idx28_inb : ∀ (v1919 : IVec S16 32) (k1_hw28 : k1_chk28 v1919), ∀ a x, ((![v1919] : Fin 1 → IVec S16 32) a x).toNat < S256.size a := fun v1919 k1_hw28 => k1_hw28

def k1_chk29 (v1965 : IVec S16 32) : Prop :=
  (∀ a x, ((![v1965] : Fin 1 → IVec S16 32) a x).toNat < S256.size a)
theorem k1_idx29_inb : ∀ (v1965 : IVec S16 32) (k1_hw29 : k1_chk29 v1965), ∀ a x, ((![v1965] : Fin 1 → IVec S16 32) a x).toNat < S256.size a := fun v1965 k1_hw29 => k1_hw29

def k1_chk30 (v2011 : IVec S16 32) : Prop :=
  (∀ a x, ((![v2011] : Fin 1 → IVec S16 32) a x).toNat < S256.size a)
theorem k1_idx30_inb : ∀ (v2011 : IVec S16 32) (k1_hw30 : k1_chk30 v2011), ∀ a x, ((![v2011] : Fin 1 → IVec S16 32) a x).toNat < S256.size a := fun v2011 k1_hw30 => k1_hw30

def k1_chk31 (v2057 : IVec S16 32) : Prop :=
  (∀ a x, ((![v2057] : Fin 1 → IVec S16 32) a x).toNat < S256.size a)
theorem k1_idx31_inb : ∀ (v2057 : IVec S16 32) (k1_hw31 : k1_chk31 v2057), ∀ a x, ((![v2057] : Fin 1 → IVec S16 32) a x).toNat < S256.size a := fun v2057 k1_hw31 => k1_hw31

def k1_chk32 (v2103 : IVec S16 32) : Prop :=
  (∀ a x, ((![v2103] : Fin 1 → IVec S16 32) a x).toNat < S256.size a)
theorem k1_idx32_inb : ∀ (v2103 : IVec S16 32) (k1_hw32 : k1_chk32 v2103), ∀ a x, ((![v2103] : Fin 1 → IVec S16 32) a x).toNat < S256.size a := fun v2103 k1_hw32 => k1_hw32
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_308 : BitVec 32 := 2#32
  let v1061 : BitVec 32 := Scalar.muli v1 c2_i32_308
  let c1_i32 : BitVec 32 := 1#32
  let v1062 : BitVec 32 := Scalar.addi v1061 c1_i32
  let c0_i32_665_r4 : BitVec 32 := 0#32
  ![v1062.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x3x512x512 : Shape := ⟨4, ![64, 3, 512, 512]⟩
abbrev S_ : Shape := ⟨0, ![]⟩
abbrev S64x3x16x16 : Shape := ⟨4, ![64, 3, 16, 16]⟩
abbrev S64x16x16 : Shape := ⟨3, ![64, 16, 16]⟩
abbrev S64x1x16x16 : Shape := ⟨4, ![64, 1, 16, 16]⟩
abbrev S64x256 : Shape := ⟨2, ![64, 256]⟩
abbrev S256 : Shape := ⟨1, ![256]⟩
abbrev S1x256 : Shape := ⟨2, ![1, 256]⟩
abbrev S64 : Shape := ⟨1, ![64]⟩
abbrev S64x1 : Shape := ⟨2, ![64, 1]⟩
abbrev S64x256x1 : Shape := ⟨3, ![64, 256, 1]⟩
abbrev S64x256x2 : Shape := ⟨3, ![64, 256, 2]⟩

abbrev nBuf : Space → Nat
  | .hbm => 71
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S_, .f32⟩
  | .hbm, ⟨2, _⟩ => ⟨S_, .f32⟩
  | .hbm, ⟨3, _⟩ => ⟨S64x3x16x16, .f32⟩
  | .hbm, ⟨4, _⟩ => ⟨S_, .f32⟩
  | .hbm, ⟨5, _⟩ => ⟨S64x3x16x16, .f32⟩
  | .hbm, ⟨6, _⟩ => ⟨S64x3x16x16, .i1⟩
  | .hbm, ⟨7, _⟩ => ⟨S_, .f32⟩
  | .hbm, ⟨8, _⟩ => ⟨S_, .f32⟩
  | .hbm, ⟨9, _⟩ => ⟨S64x3x16x16, .f32⟩
  | .hbm, ⟨10, _⟩ => ⟨S64x3x16x16, .f32⟩
  | .hbm, ⟨11, _⟩ => ⟨S_, .f32⟩
  | .hbm, ⟨12, _⟩ => ⟨S64x3x16x16, .f32⟩
  | .hbm, ⟨13, _⟩ => ⟨S64x3x16x16, .i1⟩
  | .hbm, ⟨14, _⟩ => ⟨S_, .f32⟩
  | .hbm, ⟨15, _⟩ => ⟨S_, .f32⟩
  | .hbm, ⟨16, _⟩ => ⟨S64x3x16x16, .f32⟩
  | .hbm, ⟨17, _⟩ => ⟨S64x3x16x16, .f32⟩
  | .hbm, ⟨18, _⟩ => ⟨S_, .f32⟩
  | .hbm, ⟨19, _⟩ => ⟨S64x16x16, .f32⟩
  | .hbm, ⟨20, _⟩ => ⟨S64x1x16x16, .f32⟩
  | .hbm, ⟨21, _⟩ => ⟨S64x16x16, .f32⟩
  | .hbm, ⟨22, _⟩ => ⟨S_, .f32⟩
  | .hbm, ⟨23, _⟩ => ⟨S64x16x16, .f32⟩
  | .hbm, ⟨24, _⟩ => ⟨S64x16x16, .i1⟩
  | .hbm, ⟨25, _⟩ => ⟨S_, .f32⟩
  | .hbm, ⟨26, _⟩ => ⟨S_, .f32⟩
  | .hbm, ⟨27, _⟩ => ⟨S64x16x16, .f32⟩
  | .hbm, ⟨28, _⟩ => ⟨S64x16x16, .f32⟩
  | .hbm, ⟨29, _⟩ => ⟨S64x1x16x16, .f32⟩
  | .hbm, ⟨30, _⟩ => ⟨S64x16x16, .f32⟩
  | .hbm, ⟨31, _⟩ => ⟨S_, .f32⟩
  | .hbm, ⟨32, _⟩ => ⟨S64x16x16, .f32⟩
  | .hbm, ⟨33, _⟩ => ⟨S64x16x16, .i1⟩
  | .hbm, ⟨34, _⟩ => ⟨S_, .f32⟩
  | .hbm, ⟨35, _⟩ => ⟨S_, .f32⟩
  | .hbm, ⟨36, _⟩ => ⟨S64x16x16, .f32⟩
  | .hbm, ⟨37, _⟩ => ⟨S64x16x16, .f32⟩
  | .hbm, ⟨38, _⟩ => ⟨S64x256, .f32⟩
  | .hbm, ⟨39, _⟩ => ⟨S64x256, .i32⟩
  | .hbm, ⟨40, _⟩ => ⟨S64x256, .f32⟩
  | .hbm, ⟨41, _⟩ => ⟨S64x256, .i32⟩
  | .hbm, ⟨42, _⟩ => ⟨S256, .i32⟩
  | .hbm, ⟨43, _⟩ => ⟨S1x256, .i32⟩
  | .hbm, ⟨44, _⟩ => ⟨S64x256, .i32⟩
  | .hbm, ⟨45, _⟩ => ⟨S64, .i32⟩
  | .hbm, ⟨46, _⟩ => ⟨S64x1, .i32⟩
  | .hbm, ⟨47, _⟩ => ⟨S_, .i32⟩
  | .hbm, ⟨48, _⟩ => ⟨S64x256, .i32⟩
  | .hbm, ⟨49, _⟩ => ⟨S_, .i32⟩
  | .hbm, ⟨50, _⟩ => ⟨S64x1, .i32⟩
  | .hbm, ⟨51, _⟩ => ⟨S64x1, .i1⟩
  | .hbm, ⟨52, _⟩ => ⟨S_, .i32⟩
  | .hbm, ⟨53, _⟩ => ⟨S64x1, .i32⟩
  | .hbm, ⟨54, _⟩ => ⟨S64x1, .i32⟩
  | .hbm, ⟨55, _⟩ => ⟨S64x1, .i32⟩
  | .hbm, ⟨56, _⟩ => ⟨S_, .i32⟩
  | .hbm, ⟨57, _⟩ => ⟨S64x256, .i32⟩
  | .hbm, ⟨58, _⟩ => ⟨S64x256, .i1⟩
  | .hbm, ⟨59, _⟩ => ⟨S_, .i32⟩
  | .hbm, ⟨60, _⟩ => ⟨S64x256, .i32⟩
  | .hbm, ⟨61, _⟩ => ⟨S64x256, .i32⟩
  | .hbm, ⟨62, _⟩ => ⟨S64x256, .i32⟩
  | .hbm, ⟨63, _⟩ => ⟨S64x256, .i32⟩
  | .hbm, ⟨64, _⟩ => ⟨S64x256x1, .i32⟩
  | .hbm, ⟨65, _⟩ => ⟨S64x256x1, .i32⟩
  | .hbm, ⟨66, _⟩ => ⟨S64x256x2, .i32⟩
  | .hbm, ⟨67, _⟩ => ⟨S64x256, .i32⟩
  | .hbm, ⟨68, _⟩ => ⟨S64, .i32⟩
  | .hbm, ⟨69, _⟩ => ⟨S64x1, .i32⟩
  | .hbm, ⟨70, _⟩ => ⟨S64x256, .i32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_v12 : Ref sig .tc := ⟨.hbm, 24, rfl⟩
abbrev main_cst_6 : Ref sig .tc := ⟨.hbm, 25, rfl⟩
abbrev main_call2_v0 : Ref sig .tc := ⟨.hbm, 26, rfl⟩
abbrev main_call2_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_call3_v0 : Ref sig .tc := ⟨.hbm, 35, rfl⟩
abbrev main_call3_v1 : Ref sig .tc := ⟨.hbm, 36, rfl⟩
abbrev main_v18 : Ref sig .tc := ⟨.hbm, 37, rfl⟩
abbrev main_v19 : Ref sig .tc := ⟨.hbm, 38, rfl⟩
abbrev main_call4_v0 : Ref sig .tc := ⟨.hbm, 39, rfl⟩
abbrev main_call4_v1_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_c_9 : Ref sig .tc := ⟨.hbm, 49, rfl⟩
abbrev main_v27 : Ref sig .tc := ⟨.hbm, 50, rfl⟩
abbrev main_v28 : Ref sig .tc := ⟨.hbm, 51, rfl⟩
abbrev main_c_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_11 : Ref sig .tc := ⟨.hbm, 56, rfl⟩
abbrev main_v32 : Ref sig .tc := ⟨.hbm, 57, rfl⟩
abbrev main_v33 : Ref sig .tc := ⟨.hbm, 58, rfl⟩
abbrev main_c_12 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Proof.Steps.lean ====
/-
  The sorting kernel's body written as two passes of sixteen chunks per row, and the printed body equal to it.
-/
module

public import Idealize.ShloMosaic.Lib.SparseCore
public import proofs.«01_k».proof.Proof.Gen.KernelIdeal

@[expose] public section

noncomputable section

namespace Cert.Proof.Steps

open Cert.KernelIdeal Cert.KernelIdeal.Gen
open Idealize.ShloMosaic Idealize.SL.Sem

variable {F : FTy → Type} [FloatOps F]

/-! ## The vectors of one chunk -/

/-- The lanes of class two: the second channel's value is above one half. -/
def k2 (b : Vec F S16 .f32) : IVec S16 1 := cmpf .ogt b (broadcast S16 (Scalar.ofBits .f32 0x3F000000#32 : F .f32))
/-- The lanes of class zero: the first channel's value is above one half and the second's is not. -/
def k0 (a b : Vec F S16 .f32) : IVec S16 1 :=
  andi (cmpf .ogt a (broadcast S16 (Scalar.ofBits .f32 0x3F000000#32 : F .f32))) (xori (k2 b) (constantI S16 1 1#1))
/-- The lanes of class one: the others. -/
def k1 (a b : Vec F S16 .f32) : IVec S16 1 := xori (ori (k0 a b) (k2 b)) (constantI S16 1 1#1)
/-- A mask as words. -/
def up (v : IVec S16 1) : IVec S16 32 := extui 32 v natLt_1_32
/-- The number of lanes a mask holds at, as the last entry of the running sum. -/
def tot (v : IVec S16 1) : BitVec 32 := extractAt ![15] (scan .sum (up v)) inpos_S16_p15
/-- The number of earlier lanes a mask holds at, per lane. -/
def exc (v : IVec S16 1) : IVec S16 32 := subi (scan .sum (up v)) (up v)
/-- The ranks of a chunk's lanes, from the three running counts. -/
def rk (r : BitVec 32 × BitVec 32 × BitVec 32) (a b : Vec F S16 .f32) : IVec S16 32 :=
  select (k0 a b) (addi (broadcast S16 r.1) (exc (k0 a b)))
    (select (k2 b) (addi (broadcast S16 r.2.2) (exc (k2 b))) (addi (broadcast S16 r.2.1) (exc (k1 a b))))
/-- The positions of chunk `k`'s lanes. -/
def posV (k : ℕ) : IVec S16 32 := addi (iota .scVector S16 32 [0] iota_S16_d0_w32_scVector) (broadcast S16 (BitVec.ofNat 32 (16 * k)))

/-- The running counts after a chunk. -/
def nextC (c : BitVec 32 × BitVec 32) (a b : Vec F S16 .f32) : BitVec 32 × BitVec 32 :=
  (Scalar.addi c.1 (tot (k0 a b)), Scalar.addi c.2 (tot (k1 a b)))
def nextR (r : BitVec 32 × BitVec 32 × BitVec 32) (a b : Vec F S16 .f32) : BitVec 32 × BitVec 32 × BitVec 32 :=
  (Scalar.addi r.1 (tot (k0 a b)), Scalar.addi r.2.1 (tot (k1 a b)), Scalar.addi r.2.2 (tot (k2 b)))

theorem inbA {k : ℕ} (hk : k < 16) : ∀ a, (![16 * k] : Fin 1 → ℕ) a + S16.size a ≤ S512.size a := by
  intro a; match a with | 0 => show 16 * k + 16 ≤ 512; omega
theorem inbB {k : ℕ} (hk : k < 16) : ∀ a, (![256 + 16 * k] : Fin 1 → ℕ) a + S16.size a ≤ S512.size a := by
  intro a; match a with | 0 => show 256 + 16 * k + 16 ≤ 512; omega
theorem inbI {k : ℕ} (hk : k < 16) : ∀ a, (![16 * k] : Fin 1 → ℕ) a + S16.size a ≤ S256.size a := by
  intro a; match a with | 0 => show 16 * k + 16 ≤ 256; omega

section Prog

variable (i : grid1.Coords) (A5 : Memref sig .scVector .vmem S512 .f32) (A6 A7 : Memref sig .scVector .vmem S256 .i32)

abbrev Pg (i : grid1.Coords) (F : FTy → Type) (α : Type) : Type 1 :=
  Prog (TpuEff nD τ sig (Elt F) Λ₀ (.scVector ((i 0).castLE hcore1) ((i 1).castLE hsub1))) α

/-- One chunk of the counting pass. -/
def cntStep (k : ℕ) (hk : k < 16) (c : BitVec 32 × BitVec 32) : Pg i F (BitVec 32 × BitVec 32) := do
  let a : Vec F S16 .f32 ← Prog.lift (.load A5 (Rect.unit (s := S512) ![16 * k] S16.size (inbA hk)).toLoadRect (View.loadsAt_vmem h_S16))
  let b : Vec F S16 .f32 ← Prog.lift (.load A5 (Rect.unit (s := S512) ![256 + 16 * k] S16.size (inbB hk)).toLoadRect (View.loadsAt_vmem h_S16))
  pure (nextC c a b)

/-- The counting pass from chunk `k` on, `n` chunks. -/
def cntFrom : (n k : ℕ) → k + n = 16 → BitVec 32 × BitVec 32 → Pg i F (BitVec 32 × BitVec 32)
  | 0, _, _, c => pure c
  | n + 1, k, h, c => cntStep i A5 k (by omega) c >>= cntFrom n (k + 1) (by omega)

/-- One chunk of the ranking pass. -/
def rkStep (k : ℕ) (hk : k < 16) (r : BitVec 32 × BitVec 32 × BitVec 32) : Pg i F (BitVec 32 × BitVec 32 × BitVec 32) := do
  let a : Vec F S16 .f32 ← Prog.lift (.load A5 (Rect.unit (s := S512) ![16 * k] S16.size (inbA hk)).toLoadRect (View.loadsAt_vmem h_S16))
  let b : Vec F S16 .f32 ← Prog.lift (.load A5 (Rect.unit (s := S512) ![256 + 16 * k] S16.size (inbB hk)).toLoadRect (View.loadsAt_vmem h_S16))
  have hw : k1_chk1 (rk r a b) := (← Prog.lift (TpuEff.assume (k1_chk1 (rk r a b)) (k1_chk1.dec (rk r a b)))).down
  let _v : Vec F S16 .i32 ← Prog.lift (.load A7 (Rect.unit (s := S256) ![16 * k] S16.size (inbI hk)).toLoadRect (View.loadsAt_vmem h_S16))
  Prog.lift (.store A7 (Rect.unit (s := S256) ![16 * k] S16.size (inbI hk)) (rk r a b) Finset.univ (View.stores_vmem_bits_univ h_S16 rfl) (.inl rfl))
  SparseCore.vectorStoreIdx A6 ![rk r a b] (posV k) (fun _ => 1#1) false (k1_idx1_inb (rk r a b) hw) (View.stores_vmem_bits_univ h_S256 rfl)
  pure (nextR r a b)

/-- The ranking pass from chunk `k` on, `n` chunks. -/
def rkFrom : (n k : ℕ) → k + n = 16 → BitVec 32 × BitVec 32 × BitVec 32 → Pg i F (BitVec 32 × BitVec 32 × BitVec 32)
  | 0, _, _, r => pure r
  | n + 1, k, h, r => rkStep i A5 A6 A7 k (by omega) r >>= rkFrom n (k + 1) (by omega)

/-- The two passes over the row fetched. -/
def passes : Pg i F PUnit.{1} := do
  let c ← cntFrom i A5 16 0 rfl (0#32, 0#32)
  let _ ← rkFrom i A5 A6 A7 16 0 rfl (0#32, c.1, Scalar.addi c.1 c.2)
  pure ⟨⟩

/-- One row: fetch it, the two passes, write the two results out. -/
def rowProg (A2 : Memref sig .scVector .hbm S512 .f32) (h2 : A2.view.WordExact) (h5 : A5.IsWhole) (h6 : A6.IsWhole) (h7 : A7.IsWhole)
    (A3 A4 : Memref sig .scVector .hbm S256 .i32) (h3 : A3.view.WordExact) (h4 : A4.view.WordExact) (s0 s1 s2 : DmaSems sig S_) : Pg i F PUnit.{1} := do
  Prog.lift (.enqueueDma A2 (.here A5) (.dma s0.sem) h2 h5.wordExact ⟨Or.inl rfl, trivial⟩)
  Prog.lift (.waitDma2 s0.sem A2 A5 h2 h5.wordExact)
  passes i A5 A6 A7
  Prog.lift (.enqueueDma A6 (.here A3) (.dma s1.sem) h6.wordExact h3 ⟨Or.inl rfl, trivial⟩)
  Prog.lift (.waitDma2 s1.sem A6 A3 h6.wordExact h3)
  Prog.lift (.enqueueDma A7 (.here A4) (.dma s2.sem) h7.wordExact h4 ⟨Or.inl rfl, trivial⟩)
  Prog.lift (.waitDma2 s2.sem A7 A4 h7.wordExact h4)

end Prog

abbrev inRow (arg2 : Memref sig .scVector .hbm S64x512 .f32) (off : Fin 2 → ℕ) (h : ∀ a, off a + S1x512.size a ≤ S64x512.size a) :
    Memref sig .scVector .hbm S512 .f32 :=
  (arg2.slice (Rect.unit (s := S64x512) off S1x512.size h) (fun _ => rfl)).squeeze S512 squeezes_S1x512_S512
abbrev outRow (arg3 : Memref sig .scVector .hbm S64x256 .i32) (off : Fin 2 → ℕ) (h : ∀ a, off a + S1x256.size a ≤ S64x256.size a) :
    Memref sig .scVector .hbm S256 .i32 :=
  (arg3.slice (Rect.unit (s := S64x256) off S1x256.size h) (fun _ => rfl)).squeeze S256 squeezes_S1x256_S256

/-- The whole task: its two rows. -/
def taskProg (i : grid1.Coords) (arg2 : Memref sig .scVector .hbm S64x512 .f32) (arg3 arg4 : Memref sig .scVector .hbm S64x256 .i32)
    (A5 : Memref sig .scVector .vmem S512 .f32) (h5 : A5.IsWhole) (A6 : Memref sig .scVector .vmem S256 .i32) (h6 : A6.IsWhole)
    (A7 : Memref sig .scVector .vmem S256 .i32) (h7 : A7.IsWhole) (s0 s1 s2 s3 s4 s5 : DmaSems sig S_) : Pg i F PUnit.{1} := do
  rowProg i A5 A6 A7 (inRow arg2 (k1_off1 i) (k1_off1_inb i)) ((View.wordExact_bits rfl).reshape _ _) h5 h6 h7
    (outRow arg3 (k1_off2 i) (k1_off2_inb i)) (outRow arg4 (k1_off2 i) (k1_off2_inb i)) ((View.wordExact_bits rfl).reshape _ _) ((View.wordExact_bits rfl).reshape _ _) s0 s1 s2
  rowProg i A5 A6 A7 (inRow arg2 (k1_off3 i) (k1_off3_inb i)) ((View.wordExact_bits rfl).reshape _ _) h5 h6 h7
    (outRow arg3 (k1_off4 i) (k1_off4_inb i)) (outRow arg4 (k1_off4 i) (k1_off4_inb i)) ((View.wordExact_bits rfl).reshape _ _) ((View.wordExact_bits rfl).reshape _ _) s3 s4 s5

end Cert.Proof.Steps

end
-- ==== Proof.Ranks.lean ====
/-
  Counting ranks: positions below 256, each of one of three classes; a position's rank is the number of positions
  of a smaller class plus the number of earlier positions of its own. The ranks are a permutation of 0 … 255.
-/
module

public import Mathlib.Data.Nat.Count
public import Mathlib.Data.Fintype.Card
public import Mathlib.Data.Fintype.EquivFin
public import Idealize.ShloMosaic.PureOps.Reduce

@[expose] public section

namespace Cert.Proof.Ranks

variable (c : ℕ → ℕ)

/-- The number of positions below `n` of class `v`. -/
def cnt (v n : ℕ) : ℕ := Nat.count (fun j => c j = v) n

/-- The number of positions below 256 of a class smaller than `v`. -/
def base : ℕ → ℕ
  | 0 => 0
  | v + 1 => base v + cnt c v 256

/-- The rank of position `p`. -/
def rank (p : ℕ) : ℕ := base c (c p) + cnt c (c p) p

variable {c}

theorem cnt_succ (v n : ℕ) : cnt c v (n + 1) = cnt c v n + if c n = v then 1 else 0 := Nat.count_succ _ _

theorem cnt_add (v a b : ℕ) : cnt c v (a + b) = cnt c v a + Nat.count (fun j => c (a + j) = v) b := Nat.count_add _ _ _

theorem cnt_mono (v : ℕ) {a b : ℕ} (h : a ≤ b) : cnt c v a ≤ cnt c v b := Nat.count_monotone _ h

theorem cnt_lt {p n : ℕ} (h : p < n) : cnt c (c p) p < cnt c (c p) n := Nat.count_strict_mono (p := fun j => c j = c p) rfl h

/-- The three classes make up all the positions. -/
theorem cnt_total (hc : ∀ j, c j < 3) (n : ℕ) : cnt c 0 n + cnt c 1 n + cnt c 2 n = n := by
  induction n with
  | zero => rfl
  | succ n ih =>
    rw [cnt_succ, cnt_succ, cnt_succ]
    have h := hc n
    have h3 : c n = 0 ∨ c n = 1 ∨ c n = 2 := by omega
    rcases h3 with h3 | h3 | h3 <;> simp [h3] <;> omega

theorem base_mono {v w : ℕ} (h : v ≤ w) : base c v ≤ base c w := by
  induction h with
  | refl => exact le_rfl
  | step _ ih => exact ih.trans (Nat.le_add_right _ _)

theorem base_three (hc : ∀ j, c j < 3) : base c 3 = 256 := by
  show 0 + cnt c 0 256 + cnt c 1 256 + cnt c 2 256 = 256
  rw [zero_add]; exact cnt_total hc 256

/-- A position's rank is below the end of its class. -/
theorem rank_lt_base {p : ℕ} (hp : p < 256) : rank c p < base c (c p + 1) :=
  Nat.add_lt_add_left (cnt_lt hp) _

/-- A rank is below 256. -/
theorem rank_lt (hc : ∀ j, c j < 3) {p : ℕ} (hp : p < 256) : rank c p < 256 :=
  (rank_lt_base hp).trans_le ((base_mono (hc p)).trans (base_three hc).le)

/-- Ranks order the positions by class, then by position. -/
theorem rank_lt_of_before {p q : ℕ} (hp : p < 256) (h : c p < c q ∨ (c p = c q ∧ p < q)) : rank c p < rank c q := by
  rcases h with h | ⟨h, hpq⟩
  · exact (rank_lt_base hp).trans_le ((base_mono h).trans (Nat.le_add_right _ _))
  · show base c (c p) + cnt c (c p) p < base c (c q) + cnt c (c q) q
    rw [← h]; exact Nat.add_lt_add_left (cnt_lt hpq) _

theorem rank_inj {p q : ℕ} (hp : p < 256) (hq : q < 256) (h : rank c p = rank c q) : p = q := by
  by_contra hne
  have : (c p < c q ∨ (c p = c q ∧ p < q)) ∨ (c q < c p ∨ (c q = c p ∧ q < p)) := by omega
  rcases this with h' | h'
  · exact absurd h (rank_lt_of_before hp h').ne
  · exact absurd h (rank_lt_of_before hq h').ne'

/-- The ranks as a map of the 256 positions. -/
def rankF (hc : ∀ j, c j < 3) (p : Fin 256) : Fin 256 := ⟨rank c p, rank_lt hc p.isLt⟩

theorem rankF_inj (hc : ∀ j, c j < 3) : Function.Injective (rankF hc) :=
  fun p q h => Fin.ext (rank_inj p.isLt q.isLt (congrArg Fin.val h))

/-- Every place is some position's rank. -/
theorem exists_rank (hc : ∀ j, c j < 3) {r : ℕ} (hr : r < 256) : ∃ p, p < 256 ∧ rank c p = r := by
  obtain ⟨p, hp⟩ := (Finite.injective_iff_surjective.mp (rankF_inj hc)) ⟨r, hr⟩
  exact ⟨p, p.isLt, congrArg Fin.val hp⟩

/-- A number of earlier lanes as a sum of ones and zeros. -/
theorem count_eq_sum (P : ℕ → Prop) [DecidablePred P] (n : ℕ) : Nat.count P n = ∑ k ∈ Finset.range n, if P k then 1 else 0 := by
  rw [Nat.count_eq_card_filter_range, Finset.card_filter]

end Cert.Proof.Ranks
-- ==== Proof.Lanes.lean ====
/-
  One chunk of sixteen lanes: what its masks, running sums, ranks and scatter are, in terms of the row's classes.
-/
module

public import proofs.«01_k».proof.Proof.Steps
public import proofs.«01_k».proof.Proof.Ranks

@[expose] public section

noncomputable section

namespace Cert.Proof.Lanes

open Cert.KernelIdeal Cert.KernelIdeal.Gen
open Idealize.ShloMosaic Cert.Proof.Steps Cert.Proof.Ranks

variable {F : FTy → Type} [FloatOps F]

/-- Element `p` of a row of 512, of 256, and lane `l` of a chunk. -/
abbrev ix512 (p : ℕ) : S512.Idx := Shape.ofLane (d := ![512]) ⟨p % 512, Nat.mod_lt _ (by decide)⟩
abbrev ix256 (p : ℕ) : S256.Idx := Shape.ofLane (d := ![256]) ⟨p % 256, Nat.mod_lt _ (by decide)⟩
abbrev ln (l : Fin 16) : S16.Idx := Shape.ofLane (d := ![16]) l

theorem eq_ln (x : S16.Idx) : ∃ l : Fin 16, x = ln l :=
  ⟨x 0, by funext a; obtain rfl : a = 0 := Subsingleton.elim _ _; rfl⟩

/-- Above one half. -/
def gt (x : F .f32) : Prop := FloatOps.cmpf .ogt x (FloatOps.ofBits .f32 0x3F000000#32 : F .f32) = 1#1

instance (x : F .f32) : Decidable (gt x) := by unfold gt; infer_instance

/-- The class of position `p` of a row. -/
def cls (f : S512.Idx → F .f32) (p : ℕ) : ℕ := if gt (f (ix512 (256 + p))) then 2 else if gt (f (ix512 p)) then 0 else 1

theorem cls_lt (f : S512.Idx → F .f32) (p : ℕ) : cls f p < 3 := by unfold cls; split_ifs <;> decide

section Chunk

variable {f : S512.Idx → F .f32} {k : ℕ} {a b : Vec F S16 .f32}

theorem bit_not {v : BitVec 1} : v ^^^ 1#1 = 1#1 ↔ ¬ v = 1#1 := by revert v; decide
theorem bit_and {v w : BitVec 1} : v &&& w = 1#1 ↔ v = 1#1 ∧ w = 1#1 := by revert v w; decide
theorem bit_or {v w : BitVec 1} : v ||| w = 1#1 ↔ v = 1#1 ∨ w = 1#1 := by revert v w; decide

theorem k2_iff (hb : ∀ l : Fin 16, b (ln l) = f (ix512 (256 + (16 * k + l)))) (l : Fin 16) :
    k2 b (ln l) = 1#1 ↔ cls f (16 * k + l) = 2 := by
  show gt (b (ln l)) ↔ _
  rw [hb]; unfold cls; split_ifs <;> simp_all

theorem k0_iff (ha : ∀ l : Fin 16, a (ln l) = f (ix512 (16 * k + l))) (hb : ∀ l : Fin 16, b (ln l) = f (ix512 (256 + (16 * k + l)))) (l : Fin 16) :
    k0 a b (ln l) = 1#1 ↔ cls f (16 * k + l) = 0 := by
  have e : k0 a b (ln l) = (FloatOps.cmpf .ogt (a (ln l)) (FloatOps.ofBits .f32 0x3F000000#32 : F .f32)) &&& (k2 b (ln l) ^^^ 1#1) := rfl
  rw [e, bit_and, bit_not, k2_iff hb]
  show gt (a (ln l)) ∧ _ ↔ _
  rw [ha]; unfold cls; split_ifs <;> simp_all

theorem k1_iff (ha : ∀ l : Fin 16, a (ln l) = f (ix512 (16 * k + l))) (hb : ∀ l : Fin 16, b (ln l) = f (ix512 (256 + (16 * k + l)))) (l : Fin 16) :
    k1 a b (ln l) = 1#1 ↔ cls f (16 * k + l) = 1 := by
  have e : k1 a b (ln l) = (k0 a b (ln l) ||| k2 b (ln l)) ^^^ 1#1 := rfl
  rw [e, bit_not, bit_or, k0_iff ha hb, k2_iff hb]
  have := cls_lt f (16 * k + l); omega

end Chunk

/-! ## The running sums -/

theorem foldl_ofNat (x : ℕ → ℕ) (L : List ℕ) (s : ℕ) :
    L.foldl (fun r k => r + BitVec.ofNat 32 (x k)) (BitVec.ofNat 32 s) = BitVec.ofNat 32 (s + (L.map x).sum) := by
  induction L generalizing s with
  | nil => simp
  | cons k L ih => rw [List.foldl_cons, ← BitVec.ofNat_add, ih, List.map_cons, List.sum_cons, Nat.add_assoc]

/-- The lanes after the first up to lane `l`. -/
theorem lanes_list (l : Fin 16) :
    ((List.finRange 16).filter fun k => decide (0 < k.val ∧ k.val ≤ l.val)).map Fin.val = (List.range l.val).map (· + 1) := by
  revert l; decide

/-- A running sum of words is the word of the running sum. -/
theorem scan_ofNat (v : IVec S16 32) (x : ℕ → ℕ) (hv : ∀ l : Fin 16, v (ln l) = BitVec.ofNat 32 (x l)) (l : Fin 16) :
    scan .sum v (ln l) = BitVec.ofNat 32 (∑ k ∈ Finset.range (l + 1), x k) := by
  have e : scan .sum v (ln l)
      = ((List.finRange 16).filter fun k => decide (0 < k.val ∧ k.val ≤ l.val)).foldl (fun r k => r + v (ln k)) (v (ln 0)) := rfl
  rw [e, hv 0]
  have e2 : ((List.finRange 16).filter fun k => decide (0 < k.val ∧ k.val ≤ l.val)).foldl (fun r k => r + v (ln k)) (BitVec.ofNat 32 (x (0 : Fin 16)))
      = (((List.finRange 16).filter fun k => decide (0 < k.val ∧ k.val ≤ l.val)).map Fin.val).foldl (fun r k => r + BitVec.ofNat 32 (x k)) (BitVec.ofNat 32 (x 0)) := by
    rw [List.foldl_map]; simp only [hv]; rfl
  rw [e2, lanes_list, foldl_ofNat, Finset.sum_range_succ', Nat.add_comm, List.map_map]
  rfl

variable (v : IVec S16 1) (P : ℕ → Prop) [DecidablePred P]

theorem up_lane (h : ∀ l : Fin 16, v (ln l) = 1#1 ↔ P l) (l : Fin 16) : up v (ln l) = BitVec.ofNat 32 (if P l then 1 else 0) := by
  have e : up v (ln l) = (v (ln l)).setWidth 32 := rfl
  rw [e]
  by_cases hp : P l
  · rw [(h l).mpr hp, if_pos hp]; rfl
  · have h0 : v (ln l) = 0#1 := by
      have h1 : ¬ v (ln l) = 1#1 := fun e => hp ((h l).mp e)
      revert h1; generalize v (ln l) = w; revert w; decide
    rw [h0, if_neg hp]; rfl

/-- The running sum of a mask counts its lanes so far. -/
theorem scan_up (h : ∀ l : Fin 16, v (ln l) = 1#1 ↔ P l) (l : Fin 16) : scan .sum (up v) (ln l) = BitVec.ofNat 32 (Nat.count P (l + 1)) := by
  rw [scan_ofNat (up v) (fun k => if P k then 1 else 0) (up_lane v P h), count_eq_sum]

theorem tot_eq (h : ∀ l : Fin 16, v (ln l) = 1#1 ↔ P l) : tot v = BitVec.ofNat 32 (Nat.count P 16) := by
  refine Eq.trans ?_ (scan_up v P h 15)
  unfold tot extractAt
  refine congrArg (scan .sum (up v)) ?_
  funext a; obtain rfl : a = 0 := Subsingleton.elim _ _; rfl

/-- The running sum less the lane's own bit counts the earlier lanes. -/
theorem exc_eq (h : ∀ l : Fin 16, v (ln l) = 1#1 ↔ P l) (l : Fin 16) : exc v (ln l) = BitVec.ofNat 32 (Nat.count P l) := by
  have e : exc v (ln l) = scan .sum (up v) (ln l) - up v (ln l) := rfl
  rw [e, scan_up v P h, up_lane v P h, Nat.count_succ, BitVec.ofNat_add, BitVec.add_sub_cancel]

/-! ## The counts and the ranks of a chunk -/

section Ranks

variable {f : S512.Idx → F .f32} {k : ℕ} {a b : Vec F S16 .f32}
  (ha : ∀ l : Fin 16, a (ln l) = f (ix512 (16 * k + l))) (hb : ∀ l : Fin 16, b (ln l) = f (ix512 (256 + (16 * k + l))))

/-- The two counts after `n` positions. -/
def cntW (f : S512.Idx → F .f32) (n : ℕ) : BitVec 32 × BitVec 32 := (BitVec.ofNat 32 (cnt (cls f) 0 n), BitVec.ofNat 32 (cnt (cls f) 1 n))
/-- The next rank of each class after `n` positions. -/
def rkW (f : S512.Idx → F .f32) (n : ℕ) : BitVec 32 × BitVec 32 × BitVec 32 :=
  (BitVec.ofNat 32 (base (cls f) 0 + cnt (cls f) 0 n), BitVec.ofNat 32 (base (cls f) 1 + cnt (cls f) 1 n), BitVec.ofNat 32 (base (cls f) 2 + cnt (cls f) 2 n))

include ha hb in
theorem nextC_eq : nextC (cntW f (16 * k)) a b = cntW f (16 * (k + 1)) := by
  have e0 := tot_eq (k0 a b) (fun l => cls f (16 * k + l) = 0) (k0_iff ha hb)
  have e1 := tot_eq (k1 a b) (fun l => cls f (16 * k + l) = 1) (k1_iff ha hb)
  have s : 16 * (k + 1) = 16 * k + 16 := rfl
  unfold nextC cntW
  rw [e0, e1, s, cnt_add, cnt_add, BitVec.ofNat_add, BitVec.ofNat_add]; rfl

include ha hb in
theorem nextR_eq : nextR (rkW f (16 * k)) a b = rkW f (16 * (k + 1)) := by
  have e0 := tot_eq (k0 a b) (fun l => cls f (16 * k + l) = 0) (k0_iff ha hb)
  have e1 := tot_eq (k1 a b) (fun l => cls f (16 * k + l) = 1) (k1_iff ha hb)
  have e2 := tot_eq (k2 b) (fun l => cls f (16 * k + l) = 2) (k2_iff hb)
  have s : 16 * (k + 1) = 16 * k + 16 := rfl
  unfold nextR rkW
  have g : ∀ x y z : ℕ, Scalar.addi (BitVec.ofNat 32 (x + y)) (BitVec.ofNat 32 z) = BitVec.ofNat 32 (x + (y + z)) := fun x y z => by
    rw [← Nat.add_assoc, BitVec.ofNat_add (x := x + y)]; rfl
  rw [e0, e1, e2, s, cnt_add, cnt_add, cnt_add, g, g, g]

include ha hb in
/-- The rank a chunk computes for a lane is its position's. -/
theorem rk_eq (l : Fin 16) : rk (rkW f (16 * k)) a b (ln l) = BitVec.ofNat 32 (rank (cls f) (16 * k + l)) := by
  have e0 := exc_eq (k0 a b) (fun l => cls f (16 * k + l) = 0) (k0_iff ha hb) l
  have e1 := exc_eq (k1 a b) (fun l => cls f (16 * k + l) = 1) (k1_iff ha hb) l
  have e2 := exc_eq (k2 b) (fun l => cls f (16 * k + l) = 2) (k2_iff hb) l
  have e : rk (rkW f (16 * k)) a b (ln l)
      = if k0 a b (ln l) = 1#1 then (rkW f (16 * k)).1 + exc (k0 a b) (ln l)
        else if k2 b (ln l) = 1#1 then (rkW f (16 * k)).2.2 + exc (k2 b) (ln l) else (rkW f (16 * k)).2.1 + exc (k1 a b) (ln l) := rfl
  rw [e, e0, e1, e2]
  have h0 := k0_iff ha hb l
  have h2 := k2_iff hb l
  have h3 := cls_lt f (16 * k + l)
  unfold rank rkW
  split_ifs with c0 c2
  · rw [h0.mp c0, cnt_add, ← Nat.add_assoc, BitVec.ofNat_add (y := Nat.count _ _)]
  · rw [h2.mp c2, cnt_add, ← Nat.add_assoc, BitVec.ofNat_add (y := Nat.count _ _)]
  · have h1 : cls f (16 * k + l) = 1 := by
      have n0 : ¬ cls f (16 * k + l) = 0 := fun e => c0 (h0.mpr e)
      have n2 : ¬ cls f (16 * k + l) = 2 := fun e => c2 (h2.mpr e)
      omega
    rw [h1, cnt_add, ← Nat.add_assoc, BitVec.ofNat_add (y := Nat.count _ _)]

include ha hb in
theorem rk_toNat (hk : k < 16) (l : Fin 16) : (rk (rkW f (16 * k)) a b (ln l)).toNat = rank (cls f) (16 * k + l) := by
  rw [rk_eq ha hb, BitVec.toNat_ofNat, Nat.mod_eq_of_lt]
  exact (rank_lt (cls_lt f) (by omega)).trans (by decide)

include ha hb in
/-- The chunk's ranks are in range. -/
theorem rk_chk (hk : k < 16) : k1_chk1 (rk (rkW f (16 * k)) a b) := by
  intro x y
  obtain rfl : x = 0 := Subsingleton.elim _ _
  show (rk (rkW f (16 * k)) a b y).toNat < 256
  obtain ⟨l, rfl⟩ := eq_ln y
  rw [rk_toNat ha hb hk]
  exact rank_lt (cls_lt f) (by omega)

theorem posV_eq (hk : k < 16) (l : Fin 16) : posV k (ln l) = BitVec.ofNat 32 (16 * k + l) := by
  have e : posV k (ln l) = BitVec.ofNat 32 (0 * 16 + l.val) + BitVec.ofNat 32 (16 * k) := rfl
  rw [e, ← BitVec.ofNat_add]; congr 1; omega

end Ranks

/-! ## The scatter -/

/-- A scatter through distinct places: what each lane's place holds, and that every other place keeps its value. -/
theorem fold_set {I : Type} {α : Type} (idx : I → ℕ) (val : I → α) (L : List I) (g : S256.Idx → α) (j : S256.Idx) :
    (∀ i ∈ L, idx i ≠ (j 0).val) →
      L.foldl (fun g i => fun j : S256.Idx => if (j 0).val = idx i then val i else g j) g j = g j := by
  induction L generalizing g with
  | nil => intro _; rfl
  | cons i L ih =>
    intro h
    rw [List.foldl_cons, ih _ fun i' hi' => h i' (List.mem_cons_of_mem _ hi')]
    exact if_neg fun e => h i List.mem_cons_self e.symm

theorem fold_hit {I : Type} {α : Type} (idx : I → ℕ) (val : I → α) (L : List I) (g : S256.Idx → α) (j : S256.Idx) (i : I) (hi : i ∈ L) (hj : idx i = (j 0).val)
    (hinj : ∀ i' ∈ L, idx i' = idx i → val i' = val i) :
      L.foldl (fun g i => fun j : S256.Idx => if (j 0).val = idx i then val i else g j) g j = val i := by
  induction L generalizing g with
  | nil => nomatch hi
  | cons i₀ L ih =>
    rw [List.foldl_cons]
    by_cases hm : ∃ i' ∈ L, idx i' = idx i
    · obtain ⟨i', hi', he⟩ := hm
      rcases List.mem_cons.mp hi with rfl | hiL
      · by_cases hiL : i ∈ L
        · exact ih _ hiL fun i' h' => hinj i' (List.mem_cons_of_mem _ h')
        · have hv : val i' = val i := hinj i' (List.mem_cons_of_mem _ hi') he
          clear ih
          -- the last lane of that place decides, with the same value
          have gen : ∀ (L : List I) (g : S256.Idx → α), (∀ i' ∈ L, idx i' = idx i → val i' = val i) → g j = val i →
              L.foldl (fun g i => fun j : S256.Idx => if (j 0).val = idx i then val i else g j) g j = val i := by
            intro L
            induction L with
            | nil => intro g _ h; exact h
            | cons i₁ L ih =>
              intro g h hg
              rw [List.foldl_cons]
              refine ih _ (fun i' h' => h i' (List.mem_cons_of_mem _ h')) ?_
              show (if (j 0).val = idx i₁ then val i₁ else g j) = val i
              split_ifs with h1
              · exact h i₁ List.mem_cons_self (h1.symm.trans hj.symm)
              · exact hg
          exact gen L _ (fun i' h' => hinj i' (List.mem_cons_of_mem _ h')) (if_pos hj.symm)
      · exact ih _ hiL fun i' h' => hinj i' (List.mem_cons_of_mem _ h')
    · have hno : ∀ i' ∈ L, idx i' ≠ (j 0).val := fun i' h' e => hm ⟨i', h', e.trans hj.symm⟩
      rcases List.mem_cons.mp hi with rfl | hiL
      · rw [fold_set idx val L _ j hno]; exact if_pos hj.symm
      · exact absurd ⟨i, hiL, rfl⟩ hm

/-- The chunk's scatter, one lane after another. -/
theorem storeIdx_eq (g : Vec F S256 .i32) (r w : IVec S16 32) (h : ∀ a x, ((![r] : Fin 1 → IVec S16 32) a x).toNat < S256.size a) :
    storeIdx (F := F) (e := .i32) g ![r] w (fun _ => 1#1) false h
      = (List.finRange 16).foldl (fun g i => fun j : S256.Idx => if (j 0).val = (r (ln i)).toNat then w (ln i) else g j) g := by
  unfold storeIdx
  congr 1
  funext g i j
  rw [if_pos (show (fun _ => 1#1 : IVec S16 1) (Shape.ofLane i) = (1 : BitVec 1) from rfl)]
  by_cases H : (j 0).val = (r (ln i)).toNat
  · rw [if_pos H]
    refine (if_pos ?_).trans rfl
    intro a; obtain rfl : a = 0 := Subsingleton.elim _ _; exact H
  · rw [if_neg H]
    refine if_neg ?_
    intro h'; exact H (h' 0)

section Scatter

variable {f : S512.Idx → F .f32} {k : ℕ} {a b : Vec F S16 .f32}
  (ha : ∀ l : Fin 16, a (ln l) = f (ix512 (16 * k + l))) (hb : ∀ l : Fin 16, b (ln l) = f (ix512 (256 + (16 * k + l))))

/-- The first result after `n` positions: each position stands at its rank. -/
def ImapUpTo (f : S512.Idx → F .f32) (n : ℕ) (g : S256.Idx → BitVec 32) : Prop := ∀ p < n, g (ix256 (rank (cls f) p)) = BitVec.ofNat 32 p
/-- The second result after `n` positions: each position holds its rank. -/
def InvUpTo (f : S512.Idx → F .f32) (n : ℕ) (g : S256.Idx → BitVec 32) : Prop := ∀ p < n, g (ix256 p) = BitVec.ofNat 32 (rank (cls f) p)

theorem ix256_val {p : ℕ} (hp : p < 256) : ((ix256 p) 0).val = p := Nat.mod_eq_of_lt hp

include ha hb in
/-- A chunk's scatter extends the first result by its sixteen positions. -/
theorem imap_step (hk : k < 16) (g : S256.Idx → BitVec 32) (hg : ImapUpTo f (16 * k) g)
    (h : ∀ x y, ((![rk (rkW f (16 * k)) a b] : Fin 1 → IVec S16 32) x y).toNat < S256.size x) :
    ImapUpTo f (16 * (k + 1)) (storeIdx (F := F) (e := .i32) g ![rk (rkW f (16 * k)) a b] (posV k) (fun _ => 1#1) false h) := by
  intro p hp
  have hp' : p < 256 := by omega
  have hv := ix256_val (rank_lt (cls_lt f) hp')
  rw [storeIdx_eq]
  by_cases hlt : p < 16 * k
  · refine (fold_set _ _ _ g _ fun i _ e => ?_).trans (hg p hlt)
    rw [rk_toNat ha hb hk, hv] at e
    have := rank_inj (by omega) hp' e
    omega
  · have e := fold_hit (fun i : Fin 16 => (rk (rkW f (16 * k)) a b (ln i)).toNat) (fun i => posV k (ln i)) (List.finRange 16) g
      (ix256 (rank (cls f) p)) ⟨p - 16 * k, by omega⟩ (List.mem_finRange _) (by
        rw [hv]; show (rk (rkW f (16 * k)) a b (ln _)).toNat = _
        rw [rk_toNat ha hb hk]; congr 1; show 16 * k + (p - 16 * k) = p; omega)
      (fun i' _ e => by
        have e' : rank (cls f) (16 * k + i') = rank (cls f) (16 * k + (p - 16 * k)) := by
          have := e; simp only [rk_toNat ha hb hk] at this; exact this
        have := rank_inj (by omega) (by omega) e'
        show posV k (ln i') = posV k (ln _)
        rw [posV_eq hk, posV_eq hk, this])
    refine e.trans ?_
    show posV k (ln _) = _
    rw [posV_eq hk]; congr 1; show 16 * k + (p - 16 * k) = p; omega

end Scatter

end Cert.Proof.Lanes

end
-- ==== Proof.Pass.lean ====
/-
  The two passes of a row, run: from the row fetched in the first scratch, the second scratch ends with every position
  standing at its rank and the third with every position's rank.
-/
module

public import proofs.«01_k».proof.Proof.Lanes
public import Idealize.ShloMosaic.Lib.SparseCore.Ops
public import Idealize.ShloMosaic.Lib.Tactic

@[expose] public section

noncomputable section

namespace Cert.Proof.Pass

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Proof.Steps Cert.Proof.Ranks Cert.Proof.Lanes

variable {F : FTy → Type} [FloatOps F]

/-! ## The two steps as effects -/

section Eq

variable (i : grid1.Coords) (A5 : Memref sig .scVector .vmem S512 .f32) (A6 A7 : Memref sig .scVector .vmem S256 .i32) (k : ℕ) (hk : k < 16)

theorem cntStep_eq (c : BitVec 32 × BitVec 32) :
    (cntStep i A5 k hk c : Pg i F _)
      = .op (.load A5 (Rect.unit (s := S512) ![16 * k] S16.size (inbA hk)).toLoadRect (View.loadsAt_vmem h_S16)) fun a =>
        .op (.load A5 (Rect.unit (s := S512) ![256 + 16 * k] S16.size (inbB hk)).toLoadRect (View.loadsAt_vmem h_S16)) fun b =>
        .ret (nextC c a b) := rfl

theorem rkStep_eq (r : BitVec 32 × BitVec 32 × BitVec 32) :
    (rkStep i A5 A6 A7 k hk r : Pg i F _)
      = .op (.load A5 (Rect.unit (s := S512) ![16 * k] S16.size (inbA hk)).toLoadRect (View.loadsAt_vmem h_S16)) fun a =>
        .op (.load A5 (Rect.unit (s := S512) ![256 + 16 * k] S16.size (inbB hk)).toLoadRect (View.loadsAt_vmem h_S16)) fun b =>
        .op (.assume (k1_chk1 (rk r a b)) (k1_chk1.dec (rk r a b))) fun hw =>
        .op (.load A7 (Rect.unit (s := S256) ![16 * k] S16.size (inbI hk)).toLoadRect (View.loadsAt_vmem h_S16)) fun _ =>
        .op (.store A7 (Rect.unit (s := S256) ![16 * k] S16.size (inbI hk)) (rk r a b) Finset.univ (View.stores_vmem_bits_univ h_S16 rfl) (.inl rfl)) fun _ =>
        SparseCore.vectorStoreIdx A6 ![rk r a b] (posV k) (fun _ => 1#1) false (k1_idx1_inb (rk r a b) hw.down) (View.stores_vmem_bits_univ h_S256 rfl) >>= fun _ =>
        .ret (nextR r a b) := rfl

end Eq

/-! ## The scratches -/

local notation "sQ" => (Memref.whole Cert.KernelIdeal.cc1_scratch0 : Memref Cert.KernelIdeal.sig Kind.scVector Space.vmem Cert.KernelIdeal.S512 EltTy.f32)
local notation "sM" => (Memref.whole Cert.KernelIdeal.cc1_scratch1 : Memref Cert.KernelIdeal.sig Kind.scVector Space.vmem Cert.KernelIdeal.S256 EltTy.i32)
local notation "sR" => (Memref.whole Cert.KernelIdeal.cc1_scratch2 : Memref Cert.KernelIdeal.sig Kind.scVector Space.vmem Cert.KernelIdeal.S256 EltTy.i32)

/-- A chunk's load of the fetched row reads its sixteen lanes. -/
theorem read_row {f : S512.Idx → F .f32} {o : ℕ} (h : ∀ a, (![o] : Fin 1 → ℕ) a + S16.size a ≤ S512.size a) (l : Fin 16) :
    (sQ).view.readAt (Elt F) (Rect.unit (s := S512) ![o] S16.size h).toLoadRect f (ln l) = f (ix512 (o + l)) := by
  have h0 : o + 16 ≤ 512 := h 0
  show f _ = f _
  congr 1
  funext a; obtain rfl : a = (0 : Fin 1) := Subsingleton.elim (α := Fin 1) _ _
  apply Fin.ext
  show o + 1 * l.val = (o + l.val) % 512
  rw [Nat.mod_eq_of_lt (by omega), one_mul]

/-- A chunk's store extends the second result by its sixteen positions. -/
theorem inv_step {f : S512.Idx → F .f32} {k : ℕ} {a b : Vec F S16 .f32}
    (ha : ∀ l : Fin 16, a (ln l) = f (ix512 (16 * k + l))) (hb : ∀ l : Fin 16, b (ln l) = f (ix512 (256 + (16 * k + l))))
    (hk : k < 16) (g : S256.Idx → BitVec 32) (hg : InvUpTo f (16 * k) g) :
    InvUpTo f (16 * (k + 1)) (((sR).access (Rect.unit (s := S256) ![16 * k] S16.size (inbI hk))).write (Elt F) g (rk (rkW f (16 * k)) a b) Finset.univ) := by
  intro p hp
  have hp' : p < 256 := by omega
  by_cases hlt : p < 16 * k
  · refine (View.write_of_not_mem _ _ _ ?_).trans (hg p hlt)
    intro hm
    obtain ⟨j, -, hj⟩ := Finset.mem_map.mp hm
    have := congrArg (fun i : S256.Idx => (i 0).val) hj
    have h2 : ((((sR).access (Rect.unit (s := S256) ![16 * k] S16.size (inbI hk))).emb j : S256.Idx) 0).val = 16 * k + 1 * (j 0).val := rfl
    have h3 := ix256_val hp'
    simp only [] at this
    have h4 : 16 * k + 1 * (j 0).val = p := h2.symm.trans (this.trans h3)
    omega
  · have hl : p - 16 * k < 16 := by omega
    have e : ix256 p = ((sR).access (Rect.unit (s := S256) ![16 * k] S16.size (inbI hk))).emb (ln ⟨p - 16 * k, hl⟩) := by
      funext a; obtain rfl : a = 0 := Subsingleton.elim _ _
      apply Fin.ext
      show p % 256 = 16 * k + 1 * (p - 16 * k)
      rw [Nat.mod_eq_of_lt hp']; omega
    rw [e, View.write_emb_of_mem _ _ (Finset.mem_univ _)]
    show rk (rkW f (16 * k)) a b (ln _) = _
    rw [rk_eq ha hb]; congr 2; show 16 * k + (p - 16 * k) = p; omega

/-! ## The passes -/

section Run

variable {Ix : Type} [DecidableEq Ix] {Name : Type} [DecidableEq Name] {U : Type} [URA U] {Lvl : Type} [Preorder Lvl]
variable (𝒱 : Variants) (bd : Option 𝒱.V) (d : Dev nD) (i : grid1.Coords)

local notation "𝕄" => MT nD τ sig Ix (Elt F) Name U Lvl

/-- The tile the task runs on. -/
abbrev thr (d : Dev nD) (i : grid1.Coords) : Thread nD τ := V d ((i 0).castLE hcore1) ((i 1).castLE hsub1)

abbrev qPts (d : Dev nD) (i : grid1.Coords) (f : S512.Idx → F .f32) : sProp 𝕄 := (sQ).view.loc (thr d i) ↦{fullShare} f
abbrev mPts (d : Dev nD) (i : grid1.Coords) (f : S256.Idx → BitVec 32) : sProp 𝕄 := (sM).view.loc (thr d i) ↦{fullShare} f
abbrev rPts (d : Dev nD) (i : grid1.Coords) (f : S256.Idx → BitVec 32) : sProp 𝕄 := (sR).view.loc (thr d i) ↦{fullShare} f

theorem access_whole_write (g v : S256.Idx → BitVec 32) :
    ((sM).access (.whole S256)).write (Elt F) g v Finset.univ = v :=
  Memref.write_access_whole_univ (Elt F) (cc1_scratch1 : Ref sig .scVector) g v

theorem mPts_whole (f : S256.Idx → BitVec 32) :
    (((sM).access (.whole S256)).loc (thr d i) ↦[((sM).access (.whole S256)).set]{fullShare} f : sProp 𝕄) = mPts d i f := by
  rw [show ((sM).access (.whole S256)).set = Finset.univ from Memref.set_access_whole (cc1_scratch1 : Ref sig .scVector)]

theorem mPts_stored (g : S256.Idx → BitVec 32) (idxs : Fin S256.rank → IVec S16 32) (v : IVec S16 32) (h : ∀ a x, (idxs a x).toNat < S256.size a) :
    (((sM).access (.whole S256)).loc (thr d i) ↦[((sM).access (.whole S256)).set]{fullShare}
        ((sM).access (.whole S256)).write (Elt F) g (storeIdx (F := F) (e := .i32) (((sM).access (.whole S256)).read (Elt F) g) idxs v (fun _ => 1#1) false h) Finset.univ : sProp 𝕄)
      ⊢ mPts d i (storeIdx (F := F) (e := .i32) g idxs v (fun _ => 1#1) false h) := by
  have er : ((sM).access (.whole S256)).read (Elt F) g = g := Memref.read_access_whole (Elt F) (cc1_scratch1 : Ref sig .scVector) g
  rw [er, access_whole_write]
  exact Entails.of_eq (mPts_whole (F := F) d i _)

theorem wp_cntStep (k : ℕ) (hk : k < 16) (f : S512.Idx → F .f32) (Q : BitVec 32 × BitVec 32 → sProp 𝕄) :
    iprop(qPts d i f ∗ (qPts d i f -∗ Q (cntW f (16 * (k + 1)))))
      ⊢ wp frame (wpE (defs₀ (F := F)) 𝒱 (thr d i) bd) Set.univ (cntStep i sQ k hk (cntW f (16 * k))) Q := by
  rw [cntStep_eq]
  iintro ⟨Hq, HQ⟩
  iapply (wp_load 𝒱 (thr d i) bd Set.univ (m := sQ) (S := Finset.univ) (Finset.subset_univ _)) $$ Hq; iintro Hq
  iapply (wp_load 𝒱 (thr d i) bd Set.univ (m := sQ) (S := Finset.univ) (Finset.subset_univ _)) $$ Hq; iintro Hq
  rw [nextC_eq (f := f) (k := k) (fun l => read_row _ l) (fun l => (read_row _ l).trans (by rw [Nat.add_assoc]))]
  rw [wp_ret]; imodintro
  iapply HQ; iexact Hq

theorem wp_cntFrom (n k : ℕ) (h : k + n = 16) (f : S512.Idx → F .f32) (Q : BitVec 32 × BitVec 32 → sProp 𝕄) :
    iprop(qPts d i f ∗ (qPts d i f -∗ Q (cntW f 256)))
      ⊢ wp frame (wpE (defs₀ (F := F)) 𝒱 (thr d i) bd) Set.univ (cntFrom i sQ n k h (cntW f (16 * k))) Q := by
  induction n generalizing k with
  | zero =>
    obtain rfl : k = 16 := h
    unfold cntFrom
    iintro ⟨Hq, HQ⟩
    rw [wp_pure]; imodintro
    iapply HQ; iexact Hq
  | succ n ih =>
    unfold cntFrom
    rw [wp_bind]
    iintro ⟨Hq, HQ⟩
    iapply (wp_cntStep 𝒱 bd d i k _ f _)
    isplitl [Hq]
    · iexact Hq
    iintro Hq
    iapply (ih (k + 1) _)
    isplitl [Hq]
    · iexact Hq
    iexact HQ

theorem wp_rkStep (k : ℕ) (hk : k < 16) (f : S512.Idx → F .f32) (Q : BitVec 32 × BitVec 32 × BitVec 32 → sProp 𝕄) (gm gr : S256.Idx → BitVec 32)
    (hm : ImapUpTo f (16 * k) gm) (hr : InvUpTo f (16 * k) gr) :
    iprop((qPts d i f ∗ mPts d i gm ∗ rPts d i gr)
        ∗ (∀ gm' gr', ⌜ImapUpTo f (16 * (k + 1)) gm' ∧ InvUpTo f (16 * (k + 1)) gr'⌝ -∗ (qPts d i f ∗ mPts d i gm' ∗ rPts d i gr') -∗ Q (rkW f (16 * (k + 1)))))
      ⊢ wp frame (wpE (defs₀ (F := F)) 𝒱 (thr d i) bd) Set.univ (rkStep i sQ sM sR k hk (rkW f (16 * k))) Q := by
  rw [rkStep_eq]
  iintro ⟨⟨Hq, Hm, Hr⟩, HQ⟩
  iapply (wp_load 𝒱 (thr d i) bd Set.univ (m := sQ) (S := Finset.univ) (Finset.subset_univ _)) $$ Hq; iintro Hq
  iapply (wp_load 𝒱 (thr d i) bd Set.univ (m := sQ) (S := Finset.univ) (Finset.subset_univ _)) $$ Hq; iintro Hq
  have ha : ∀ l : Fin 16, (sQ).view.readAt (Elt F) (Rect.unit (s := S512) ![16 * k] S16.size (inbA hk)).toLoadRect f (ln l) = f (ix512 (16 * k + l)) := fun l => read_row _ l
  have hb : ∀ l : Fin 16, (sQ).view.readAt (Elt F) (Rect.unit (s := S512) ![256 + 16 * k] S16.size (inbB hk)).toLoadRect f (ln l) = f (ix512 (256 + (16 * k + l))) :=
    fun l => (read_row _ l).trans (by rw [Nat.add_assoc])
  generalize (sQ).view.readAt (Elt F) (Rect.unit (s := S512) ![16 * k] S16.size (inbA hk)).toLoadRect f = a at ha ⊢
  generalize (sQ).view.readAt (Elt F) (Rect.unit (s := S512) ![256 + 16 * k] S16.size (inbB hk)).toLoadRect f = b at hb ⊢
  rw [wp_assume_of _ _ _ _ (rk_chk ha hb hk)]
  iapply (wp_load 𝒱 (thr d i) bd Set.univ (m := sR) (S := Finset.univ) (Finset.subset_univ _)) $$ Hr; iintro Hr
  iapply (wp_store 𝒱 (thr d i) bd Set.univ (m := sR) (r := Rect.unit (s := S256) ![16 * k] S16.size (inbI hk)) (Mk := Finset.univ) (S := Finset.univ) (Finset.subset_univ _)) $$ Hr; iintro Hr
  ihave Hm' := (Entails.of_eq (mPts_whole (F := F) d i gm).symm) $$ Hm
  iapply (SparseCore.wp_vectorStoreIdx 𝒱 (thr d i) bd Set.univ (base := sM)) $$ Hm'; iintro Hm'
  ihave Hm := (mPts_stored (F := F) d i gm _ _ _) $$ Hm'
  rw [nextR_eq ha hb, wp_ret]; imodintro
  have h1 := imap_step ha hb hk gm hm (k1_idx1_inb (rk (rkW f (16 * k)) a b) (rk_chk ha hb hk))
  have h2 := inv_step ha hb hk gr hr
  revert h1 h2
  generalize storeIdx (F := F) (e := .i32) gm ![rk (rkW f (16 * k)) a b] (posV k) (fun _ => 1#1) false (k1_idx1_inb (rk (rkW f (16 * k)) a b) (rk_chk ha hb hk)) = gm'
  generalize ((sR).access (Rect.unit (s := S256) ![16 * k] S16.size (inbI hk))).write (Elt F) gr (rk (rkW f (16 * k)) a b) Finset.univ = gr'
  intro h1 h2
  iapply HQ $$ %gm' %gr'
  · ipureintro; exact ⟨h1, h2⟩
  isplitl [Hq]
  · iexact Hq
  isplitl [Hm]
  · iexact Hm
  iexact Hr

theorem wp_rkFrom (n k : ℕ) (h : k + n = 16) (f : S512.Idx → F .f32) (Q : BitVec 32 × BitVec 32 × BitVec 32 → sProp 𝕄) (gm gr : S256.Idx → BitVec 32)
    (hm : ImapUpTo f (16 * k) gm) (hr : InvUpTo f (16 * k) gr) :
    iprop((qPts d i f ∗ mPts d i gm ∗ rPts d i gr)
        ∗ (∀ gm' gr', ⌜ImapUpTo f 256 gm' ∧ InvUpTo f 256 gr'⌝ -∗ (qPts d i f ∗ mPts d i gm' ∗ rPts d i gr') -∗ Q (rkW f 256)))
      ⊢ wp frame (wpE (defs₀ (F := F)) 𝒱 (thr d i) bd) Set.univ (rkFrom i sQ sM sR n k h (rkW f (16 * k))) Q := by
  induction n generalizing k gm gr with
  | zero =>
    obtain rfl : k = 16 := h
    unfold rkFrom
    iintro ⟨H, HQ⟩
    rw [wp_pure]; imodintro
    iapply HQ $$ %gm %gr
    · ipureintro; exact ⟨hm, hr⟩
    iexact H
  | succ n ih =>
    unfold rkFrom
    rw [wp_bind]
    iintro ⟨H, HQ⟩
    iapply (wp_rkStep 𝒱 bd d i k _ f _ gm gr hm hr)
    isplitl [H]
    · iexact H
    iintro %gm' %gr' %hh H
    iapply (ih (k + 1) _ gm' gr' hh.1 hh.2)
    isplitl [H]
    · iexact H
    iexact HQ

/-- Both passes: from the fetched row `f`, whatever the result scratches held. -/
theorem wp_passes (f : S512.Idx → F .f32) (Q : PUnit → sProp 𝕄) (gm gr : S256.Idx → BitVec 32) :
    iprop((qPts d i f ∗ mPts d i gm ∗ rPts d i gr)
        ∗ (∀ gm' gr', ⌜ImapUpTo f 256 gm' ∧ InvUpTo f 256 gr'⌝ -∗ (qPts d i f ∗ mPts d i gm' ∗ rPts d i gr') -∗ Q ⟨⟩))
      ⊢ wp frame (wpE (defs₀ (F := F)) 𝒱 (thr d i) bd) Set.univ (passes i sQ sM sR) Q := by
  unfold passes
  simp only [wp_bind]
  iintro ⟨⟨Hq, Hm, Hr⟩, HQ⟩
  iapply (wp_cntFrom 𝒱 bd d i 16 0 rfl f _)
  isplitl [Hq]
  · iexact Hq
  iintro Hq
  have e0 : ((0#32, (cntW f 256).1, Scalar.addi (cntW f 256).1 (cntW f 256).2) : BitVec 32 × BitVec 32 × BitVec 32) = rkW f (16 * 0) := by
    unfold rkW cntW
    refine Prod.ext ?_ (Prod.ext ?_ ?_)
    · simp [base, cnt]
    · simp [base, cnt]
    · show _ + _ = _
      rw [← BitVec.ofNat_add]; simp [base, cnt]
  rw [e0]
  iapply (wp_rkFrom 𝒱 bd d i 16 0 rfl f _ gm gr (fun p hp => absurd hp (by omega)) (fun p hp => absurd hp (by omega)))
  isplitl [Hq Hm Hr]
  · isplitl [Hq]
    · iexact Hq
    isplitl [Hm]
    · iexact Hm
    iexact Hr
  iintro %gm' %gr' %hh H
  rw [wp_pure]; imodintro
  iapply HQ $$ %gm' %gr'
  · ipureintro; exact hh
  iexact H

end Run

end Cert.Proof.Pass

end
-- ==== Proof.Setup.lean ====
/-
  The program as the launch sees it: the SparseCore configuration, the resource algebra, the locations of the buffers
  the kernel's tasks touch, and the two results as functions of the pooled classes.
-/
module

public import proofs.«01_k».proof.Proof.Pass
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal.Launch

@[expose] public section

noncomputable section

namespace Cert.Proof.Setup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Steps Cert.Proof.Ranks Cert.Proof.Lanes Cert.Proof.Pass

variable {F : FTy → Type} [FloatOps F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch handshakes' rounds, the pipeline's rounds, the transfers' counters. -/
abbrev UH : Type := URounds (GSem nD τ sig) ℕ
abbrev UU : Type := UH × (UR sig nD τ × Counters)

abbrev MM (F : FTy → Type) : Type := MT nD τ sig (HIx 1) (Elt F) ℕ UU ℕ
abbrev EH : Emb UH (MM F) := embL

/-! ## The buffers -/

/-- The pooled classes, and the two results, on device `d`. -/
abbrev xLoc (d : Dev nD) : Loc nD τ sig := (SparseCore.T d).loc main_v6
abbrev aLoc (d : Dev nD) : Loc nD τ sig := (SparseCore.T d).loc main_v7_0
abbrev bLoc (d : Dev nD) : Loc nD τ sig := (SparseCore.T d).loc main_v7_1

theorem hdiv1 : 64 ∣ S64x512.size 0 := ⟨1, rfl⟩
theorem hdiv2 : 64 ∣ S64x256.size 0 := ⟨1, rfl⟩
/-- Row `r` of a (64, 512) and of a (64, 256) array. -/
abbrev row1 (r : Fin 64) : Rect S64x512 := Rect.part (s := S64x512) (a₀ := 0) hdiv1 r
abbrev row2 (r : Fin 64) : Rect S64x256 := Rect.part (s := S64x256) (a₀ := 0) hdiv2 r
abbrev rs1 (r : Fin 64) : Finset S64x512.Idx := (row1 r).set
abbrev rs2 (r : Fin 64) : Finset S64x256.Idx := (row2 r).set

/-! ## The results -/

/-- Position (r, j) of a (64, n) array. -/
def ixR (r : Fin 64) (j : Fin 512) : S64x512.Idx := fun a => Fin.cases r (fun b => b.cases j (fun x => x.elim0)) a

/-- Row `r` of the pooled classes. -/
def rowOf (g : S64x512.Idx → F .f32) (r : Fin 64) : S512.Idx → F .f32 := fun j => g (ixR r (j 0))

/-- The position standing at rank `k` of a row whose classes are `c`. -/
def posOf (c : ℕ → ℕ) (k : ℕ) : ℕ := open Classical in if h : ∃ p, p < 256 ∧ rank c p = k then Nat.find h else 0

theorem posOf_rank {c : ℕ → ℕ} {p : ℕ} (hp : p < 256) : posOf c (rank c p) = p := by
  classical
  have h : ∃ q, q < 256 ∧ rank c q = rank c p := ⟨p, hp, rfl⟩
  unfold posOf
  rw [dif_pos h]
  have := Nat.find_spec h
  exact rank_inj this.1 hp this.2

/-- The first result: row by row, the position at each rank. -/
def imapF (g : S64x512.Idx → F .f32) : S64x256.Idx → BitVec 32 := fun i => BitVec.ofNat 32 (posOf (cls (rowOf g (i 0))) (i 1).val)
/-- The second result: row by row, the rank of each position. -/
def invF (g : S64x512.Idx → F .f32) : S64x256.Idx → BitVec 32 := fun i => BitVec.ofNat 32 (rank (cls (rowOf g (i 0))) (i 1).val)

/-- What a row's passes leave in the first result scratch is the row of `imapF`. -/
theorem imap_full {f : S512.Idx → F .f32} {g : S256.Idx → BitVec 32} (h : ImapUpTo f 256 g) (j : S256.Idx) :
    g j = BitVec.ofNat 32 (posOf (cls f) (j 0).val) := by
  obtain ⟨p, hp, hr⟩ := exists_rank (cls_lt f) (j 0).isLt
  have := h p hp
  rw [hr] at this
  have e : ix256 (j 0).val = j := by
    funext a; obtain rfl : a = 0 := Subsingleton.elim (α := Fin 1) _ _
    exact Fin.ext (ix256_val (j 0).isLt)
  rw [e] at this
  rw [this, ← hr, posOf_rank hp]

theorem inv_full {f : S512.Idx → F .f32} {g : S256.Idx → BitVec 32} (h : InvUpTo f 256 g) (j : S256.Idx) :
    g j = BitVec.ofNat 32 (rank (cls f) (j 0).val) := by
  have := h (j 0).val (j 0).isLt
  have e : ix256 (j 0).val = j := by
    funext a; obtain rfl : a = 0 := Subsingleton.elim (α := Fin 1) _ _
    exact Fin.ext (ix256_val (j 0).isLt)
  rwa [e] at this

end Cert.Proof.Setup

end
-- ==== Proof.Pool.lean ====
/-
  The TensorCore kernel's body: from its three staging buffers held whole it runs to its return, the result's buffer
  left at the pooled classes of the first two.
-/
module

public import proofs.«01_k».proof.Proof.Setup
public import proofs.«01_k».proof.Proof.Gen.KernelIdeal.Skeleton
public import proofs.«01_k».proof.Proof.Gen.KernelIdeal.Points
public import Idealize.ShloMosaic.Lib.Pipeline.ClipFacts
public import Idealize.ShloMosaic.Lib.Pipeline.RegionsLoop
public import Idealize.ShloMosaic.Lib.Pipeline.Value
public import Idealize.ShloMosaic.Lib.Tactic

@[expose] public section

noncomputable section

namespace Cert.Proof.Pool

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open Cert.Proof.Setup

variable {F : FTy → Type} [FloatOps F]

local notation "𝕄" => MT nD τ sig (HIx 1) (Elt F) ℕ UU ℕ

/-- A load of a whole buffer, spelled as the rectangle at offsets zero, is what the view reads. -/
theorem readAt_zero {s : Shape} {e : EltTy} {sp : Space} (v : View sig .tc sp s e) (off : Fin s.rank → ℕ) (h : off = fun _ => 0)
    (inb : ∀ a, off a + s.size a ≤ s.size a) (f : v.ty.Contents (Elt F)) :
    v.readAt (Elt F) (Rect.unit off s.size inb).toLoadRect f = v.read (Elt F) f := by
  subst h
  funext j
  rw [View.readAt_apply]
  congr 1
  funext a; apply Fin.ext
  show 0 + 1 * (j a).val = _
  omega

/-- A store of a whole buffer, spelled so, leaves what was stored. -/
theorem read_writes_zero {s : Shape} {e : EltTy} {sp : Space} (v : View sig .tc sp s e) (off : Fin s.rank → ℕ) (h : off = fun _ => 0)
    (inb : ∀ a, off a + s.size a ≤ s.size a) (f : v.ty.Contents (Elt F)) (w : s.Idx → Elt F e) :
    v.read (Elt F) (v.writes (Elt F) f [⟨Rect.unit off s.size inb, w⟩]) = w := by
  subst h
  exact View.read_writes_whole v f w

theorem zero4 : (![0, 0, 0, 0] : Fin 4 → ℕ) = fun _ => 0 := by decide
theorem zero2 : (![0, 0] : Fin 2 → ℕ) = fun _ => 0 := by decide

/-- The body on any three staging buffers: the result's ends at the pooled classes of the other two. -/
theorem wp_body (c : Dev nD) (i : grid0.Coords) (M0 : Memref sig .tc .vmem S4x2x512x512 .f32) (h0 : M0.IsWhole)
    (M1 : Memref sig .tc .vmem S512x16 .bf16) (h1 : M1.IsWhole) (M2 : Memref sig .tc .vmem S4x2x16x16 .f32) (h2 : M2.IsWhole)
    (X0 : S4x2x512x512.Idx → F .f32) (X1 : S512x16.Idx → F .bf16) (X2 : S4x2x16x16.Idx → F .f32) (E : Set ℕ) (Q : PUnit → sProp 𝕄) :
    iprop(owns (c : Thread nD τ) M0 fullShare X0 ∗ owns (c : Thread nD τ) M1 fullShare X1 ∗ owns (c : Thread nD τ) M2 fullShare X2
        ∗ (iprop(owns (c : Thread nD τ) M0 fullShare X0 ∗ owns (c : Thread nD τ) M1 fullShare X1
            ∗ owns (c : Thread nD τ) M2 fullShare (k0_pay1 X0 X1)) -∗ Q ⟨⟩))
      ⊢ wp frame (wpE (defs₀ (F := F)) Variants.none c none) E (cc0__pool_body i M0 h0 M1 h1 M2 h2) Q := by
  rw [cc0__pool_body_eq_skeleton]; unfold cc0__pool_body_skel
  unfold owns
  iintro ⟨⟨%f0, %hf0, H0⟩, ⟨%f1, %hf1, H1⟩, ⟨%f2, %hf2, H2⟩, Hk⟩
  sl_exec
  sl_step
  iapply Hk
  isplitl [H0]; · iexists f0; isplitr; · ipureintro; exact hf0
                  iexact H0
  isplitl [H1]; · iexists f1; isplitr; · ipureintro; exact hf1
                  iexact H1
  iexists _; isplitr; swap; · iexact H2
  ipureintro
  rw [read_writes_zero M2.view _ zero4, readAt_zero M0.view _ zero4, readAt_zero M1.view _ zero2, hf0, hf1]

/-! ## The blocks of the arrays -/

/-- The element of the image array at element `j` of block `n`: image `4 n + j₀`, the other coordinates `j`'s. -/
def imgIx (n : Fin 16) (j : S4x2x512x512.Idx) : S64x3x512x512.Idx := fun a => match a with
  | 0 => ⟨4 * n.val + (j 0).val, by have := (j 0).isLt; change (j 0).val < 4 at this; have := n.isLt; show _ < 64; omega⟩
  | 1 => ⟨(j 1).val, by have := (j 1).isLt; change (j 1).val < 2 at this; show _ < 3; omega⟩
  | 2 => ⟨(j 2).val, (j 2).isLt⟩
  | 3 => ⟨(j 3).val, (j 3).isLt⟩

/-- Block `n` of the image array `x`. -/
def imgBlk (x : S64x3x512x512.Idx → F .f32) (n : Fin 16) : S4x2x512x512.Idx → F .f32 := fun j => x (imgIx n j)

/-- The block that holds element `i` of the pooled array, and the element's place in it. -/
def outBlk (i : S64x2x16x16.Idx) : Fin 16 := ⟨(i 0).val / 4, by have := (i 0).isLt; change (i 0).val < 64 at this; omega⟩
def outIx (i : S64x2x16x16.Idx) : S4x2x16x16.Idx := fun a => match a with
  | 0 => ⟨(i 0).val % 4, by show _ < 4; omega⟩
  | 1 => i 1
  | 2 => i 2
  | 3 => i 3

/-- The pooled array: every block of the images through the kernel's arithmetic. -/
def pooled (x : S64x3x512x512.Idx → F .f32) (p : S512x16.Idx → F .bf16) : S64x2x16x16.Idx → F .f32 :=
  fun i => k0_pay1 (imgBlk x (outBlk i)) p (outIx i)

theorem coords_val : ∀ t : Fin grid0.N, (grid0.coords t 0).val = t.val := by decide +kernel

/-- Point `t`'s number, below 16. -/
abbrev pt (t : Fin grid0.N) : Fin 16 := grid0.coords t 0

theorem tr0_le (i : grid0.Coords) (a : Fin 4) : (cc0_transform_0 i a + 1) * S4x2x512x512.size a ≤ S64x3x512x512.size a := by
  revert i a; decide +kernel

theorem tr0_eq : ∀ (i : grid0.Coords) (a : Fin 4), cc0_transform_0 i a = if a = 0 then (i 0).val else 0 := by decide +kernel
theorem tr1_eq : ∀ (i : grid0.Coords) (a : Fin 2), cc0_transform_1 i a = 0 := by decide +kernel
theorem tr2_eq : ∀ (i : grid0.Coords) (a : Fin 4), cc0_transform_2 i a = if a = 0 then (i 0).val else 0 := by decide +kernel

/-! ## The pipeline's proof data -/

variable (V : (c : Dev nD) → (b : Ref sig .tc) → Buf (Elt F) ((c : Thread nD τ).loc b))

/-- What the core owes the later SparseCore call, all through the region. -/
abbrev owe (c : Dev nD) : CellTallies nD τ sig (HIx 1) := (K (F := F)).Otc c 0

/-- The waits recorded up to the region's end sit at level 0 only. -/
def recd (c : Dev nD) : Set (SemLoc sig × HIx 1) := {q | (K (F := F)).lev (SparseCore.T c, q.1) q.2 ≤ 0}

/-- The proof data: the arrays at the entry valuation; after the body the image block and the selector as fetched, the
    result's block at the pooled classes; no invariant beyond the buffers no window stages. -/
def dat (c : Dev nD) : Dat τ (Elt F) (HIx 1) ℕ UU ℕ cfg0 c where
  A w := V c (Pipeline.arrRef spec0 w)
  after w t := match w with
    | ⟨0, _⟩ => imgBlk (V c main_arg0) (pt t)
    | ⟨1, _⟩ => V c main_v4
    | ⟨2, _⟩ => k0_pay1 (imgBlk (V c main_arg0) (pt t)) (V c main_v4)
  Φ _ := Pipeline.scopedRest (Ix := HIx 1) (Name := ℕ) (U := UU) (Lvl := ℕ) (Val := Elt F) spec0 c
  q _ := fullShare
  owed _ := owe (F := F) c
  recorded _ := recd (F := F) c

/-- The image window's fetch fills the whole buffer with the block. -/
theorem fetched_0 (c : Dev nD) (t : Fin cfg0.N) (d : (cfg0.win 0).block.Idx → Elt F (cfg0.win 0).elt) :
    (dat V c).fetched 0 t d = imgBlk (V c main_arg0) (pt t) := by
  funext j
  have hm : (cfg0.win 0).moved (cfg0.grid.coords t) j = true :=
    ((cfg0.win 0).moved_iff _ j).mpr fun a => by
      have h : (cfg0.win 0).xsize (cfg0.grid.coords t) a = S4x2x512x512.size a := Pipeline.Clip.extent_of_inb (tr0_le (grid0.coords t) a)
      rw [h]; exact (j a).isLt
  unfold Dat.fetched Window.fill
  rw [dif_pos hm]
  unfold Dat.blockOf
  rw [View.read_apply]
  show V c main_arg0 (((cfg0.win 0).rect t).emb _) = V c main_arg0 (imgIx (pt t) j)
  congr 1
  funext a; apply Fin.ext
  rw [Rect.emb_apply]
  show cc0_transform_0 (grid0.coords t) a * S4x2x512x512.size a + 1 * (j a).val = _
  rw [tr0_eq]
  fin_cases a
  · show (grid0.coords t 0).val * 4 + 1 * (j 0).val = 4 * (grid0.coords t 0).val + (j 0).val; omega
  · show 0 * 2 + 1 * (j 1).val = (j 1).val; omega
  · show 0 * 512 + 1 * (j 2).val = (j 2).val; omega
  · show 0 * 512 + 1 * (j 3).val = (j 3).val; omega

/-- The selector's block is the whole array. -/
theorem blockOf_1 (c : Dev nD) (t : Fin cfg0.N) : (dat V c).blockOf 1 t = V c main_v4 := by
  funext j
  unfold Dat.blockOf
  rw [View.read_apply]
  show V c main_v4 (((cfg0.win 1).rect t).emb j) = V c main_v4 j
  congr 1
  funext a; apply Fin.ext
  rw [Rect.emb_apply]
  show cc0_transform_1 (grid0.coords t) a * S512x16.size a + 1 * (j a).val = (j a).val
  rw [tr1_eq]; omega

theorem before_0 (c : Dev nD) (t : Fin cfg0.N) (d : (cfg0.win 0).block.Idx → Elt F (cfg0.win 0).elt) :
    (dat V c).before 0 t d = imgBlk (V c main_arg0) (pt t) :=
  ((dat V c).before_fetched 0 t (fetch0_0 t) d).trans (fetched_0 V c t d)

theorem before_1 (c : Dev nD) (t : Fin cfg0.N) (d : (cfg0.win 1).block.Idx → Elt F (cfg0.win 1).elt) :
    (dat V c).before 1 t d = V c main_v4 :=
  ((dat V c).before_in_eq_fetched 1 rfl (fun _ => rfl) (fun _ _ _ => rfl) (fun t => (blockOf_1 V c t).symm) t d).trans (blockOf_1 V c t)

/-- The result's array when the region ends. -/
theorem arrAt_2 (c : Dev nD) : (dat V c).arrAt 2 cfg0.N = pooled (V c main_arg0) (V c main_v4) := by
  have off : ∀ (t : Fin cfg0.N) (j : S4x2x16x16.Idx) (a : Fin 4), ((((cfg0.win 2).blk t).view.emb j) a).val
      = (if a = 0 then (grid0.coords t 0).val else 0) * S4x2x16x16.size a + (j a).val := fun t j a => by
    show ((((cfg0.win 2).rect t).emb j) a).val = _
    rw [Rect.emb_apply]
    show cc0_transform_2 (grid0.coords t) a * S4x2x16x16.size a + 1 * (j a).val = _
    rw [tr2_eq, Nat.one_mul]
  refine (dat V c).arrAt_eq_of_cover 2 (pooled (V c main_arg0) (V c main_v4)) (fun t _ => ?_) fun i => ?_
  · funext j
    rw [View.read_apply]
    show k0_pay1 (imgBlk (V c main_arg0) (pt t)) (V c main_v4) j = pooled (V c main_arg0) (V c main_v4) (((cfg0.win 2).blk t).view.emb j)
    have h0 := off t j 0
    have hj : (j 0).val < 4 := (j 0).isLt
    have h0' : ((((cfg0.win 2).blk t).view.emb j) 0).val = (grid0.coords t 0).val * 4 + (j 0).val := h0
    unfold pooled
    have e1 : outBlk (((cfg0.win 2).blk t).view.emb j) = pt t := Fin.ext (by
      show ((((cfg0.win 2).blk t).view.emb j) 0).val / 4 = (grid0.coords t 0).val
      rw [h0']; omega)
    have e2 : outIx (((cfg0.win 2).blk t).view.emb j) = j := by
      funext a; apply Fin.ext
      fin_cases a
      · show ((((cfg0.win 2).blk t).view.emb j) 0).val % 4 = (j 0).val
        rw [h0']; omega
      · show ((((cfg0.win 2).blk t).view.emb j) 1).val = (j 1).val
        rw [off t j 1]; show 0 * 2 + _ = _; omega
      · show ((((cfg0.win 2).blk t).view.emb j) 2).val = (j 2).val
        rw [off t j 2]; show 0 * 16 + _ = _; omega
      · show ((((cfg0.win 2).blk t).view.emb j) 3).val = (j 3).val
        rw [off t j 3]; show 0 * 16 + _ = _; omega
    rw [e1, e2]
  · have hi : ((i : S64x2x16x16.Idx) 0).val < 64 := (i 0).isLt
    refine ⟨⟨(outBlk i).val, by show _ < grid0.N; rw [N_0]; exact (outBlk i).isLt⟩, flush0_2 _, ?_⟩
    generalize ht : (⟨(outBlk i).val, _⟩ : Fin cfg0.N) = t
    have hc : (grid0.coords t 0).val = ((i : S64x2x16x16.Idx) 0).val / 4 := (coords_val t).trans (by rw [← ht]; rfl)
    have : ((cfg0.win 2).blk t).view.emb (outIx i) = i := by
      funext a; apply Fin.ext
      rw [off t (outIx i) a]
      fin_cases a
      · show (grid0.coords t 0).val * 4 + ((i : S64x2x16x16.Idx) 0).val % 4 = ((i : S64x2x16x16.Idx) 0).val
        rw [hc]; omega
      · show 0 * 2 + ((i : S64x2x16x16.Idx) 1).val = ((i : S64x2x16x16.Idx) 1).val; omega
      · show 0 * 16 + ((i : S64x2x16x16.Idx) 2).val = ((i : S64x2x16x16.Idx) 2).val; omega
      · show 0 * 16 + ((i : S64x2x16x16.Idx) 3).val = ((i : S64x2x16x16.Idx) 3).val; omega
    rw [← this]
    exact View.emb_mem_set _ _

end Cert.Proof.Pool

end
-- ==== Proof.Region.lean ====
/-
  The TensorCore pallas_call as a region of @main: the pipeline's obligation at every point of the grid, and the region
  entered from any contents of the unscoped buffers and left with the result's array at the pooled classes.
-/
module

public import proofs.«01_k».proof.Proof.Pool

@[expose] public section

noncomputable section

namespace Cert.Proof.Region

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open Cert.Proof.Setup Cert.Proof.Pool

variable {F : FTy → Type} [FloatOps F]

local notation "𝕄" => MT nD τ sig (HIx 1) (Elt F) ℕ UU ℕ

variable (V : (c : Dev nD) → (b : Ref sig .tc) → Buf (Elt F) ((c : Thread nD τ).loc b))

/-- The body at every point of the grid: the image block and the selector kept, the pooled block left. -/
theorem body_obligation (c : Dev nD) : BodyObligationLoose (dat V c) (defs₀ (F := F)) Variants.none none Set.univ := fun t => by
  rw [bigSep_W0, bigSep_W0]
  simp only
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩⟩
  rw [before_0 V c t d0, before_1 V c t d1]
  iapply (wp_body (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (imgBlk (V c main_arg0) (pt t)) (V c main_v4) ((dat V c).before 2 t d2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (imgBlk (V c main_arg0) (pt t))
    rw [show (cfg0.win 0).fill (cfg0.grid.coords t) (imgBlk (V c main_arg0) (pt t)) ((cfg0.win 0).cut (cfg0.grid.coords t) ((dat V c).after 0 t))
      = imgBlk (V c main_arg0) (pt t) from (cfg0.win 0).fill_cut _ _]
    iexact H0
  isplitl [H1]; · iexact H1
  iexact H2

/-- The one admissible contents of a pipeline with no prefetched table, and the proof data of the one pipeline. -/
abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => fun c => dat V c

/-- What the core owes and has recorded, around the region. -/
abbrev owing (c : Dev nD) : sProp 𝕄 :=
  iprop(∃ W, ⌜(K (F := F)).WBelow (SparseCore.T c) W 0⌝ ∗ owes (SparseCore.T c) (owe (F := F) c) W)

-- the valuation the region leaves: the result's array pooled, the others as they were
variable (V' : (c : Dev nD) → (b : Ref sig .tc) → Buf (Elt F) ((c : Thread nD τ).loc b))

set_option backward.isDefEq.respectTransparency.types false in
/-- The region, entered with every unscoped buffer at `V` and left with them at `V'`. -/
def reg (hout : ∀ c, V' c main_v5 = pooled (V c main_arg0) (V c main_v4)) (hne : ∀ c (b : Ref sig .tc), b ≠ main_v5 → V' c b = V c b) :
    Pipeline.RegionSeg (pcfgs (F := F)) adm (pdats V) none defs₀ Variants.none (K (F := F)).L (K (F := F)).lev 0 where
  win := winFacts0.to₀
  block_pos := block_pos0
  stage_whole := stage_whole0
  K := PEmpty
  osem k := k.elim
  ho := Pipeline.OwnSemFacts.none _
  hbody c := body_obligation V c
  hwaits c := Pipeline.cellsWaits_of_cut _ _ none 0 c (0 : ℕ) (owe (F := F) c) (fun _ => rfl)
    (fun w s => Finset.mem_univ _) (fun w s => le_of_eq ((K (F := F)).lev_none _))
    (fun g i hg => ⟨Finset.mem_univ _, lt_of_lt_of_le (by omega) ((K (F := F)).lev_of_Otc_pos hg)⟩)
  pre c := iprop(unscopedBufs c (V c) ∗ owing (F := F) c)
  post c := iprop(unscopedBufs c (V' c) ∗ owing (F := F) c)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) adm (pdats V) winFacts0 arr_whole0 c
      ((pdats V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun q hq => Or.inl (hW q hq)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) winFacts0 arr_whole0 c
      (pdats V) ((pdats V 0 c).share_full fun _ => rfl) (V c) (V' c) ((pdats V 0 c).arrAt · cfg0.N)
      (fun w => by
        fin_cases w
        · exact ((pdats V 0 c).arrAt_in 0 rfl _).trans (hne c main_arg0 (by decide)).symm
        · exact ((pdats V 0 c).arrAt_in 1 rfl _).trans (hne c main_v4 (by decide)).symm
        · exact (arrAt_2 V c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro; intro q hq
      rcases hW hq with h | ⟨w, s, h⟩
      · exact h
      · rw [h]; exact le_of_eq ((K (F := F)).lev_none _)
    iexact HO

end Cert.Proof.Region

end
-- ==== Proof.Row.lean ====
/-
  One row of a task: the row of the pooled classes fetched, its two passes run, the two results written out.
-/
module

public import Idealize.ShloMosaic.Lib.Pointwise.Reshape
public import proofs.«01_k».proof.Proof.Setup

@[expose] public section

noncomputable section

namespace Cert.Proof.Row

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Steps Cert.Proof.Ranks Cert.Proof.Lanes Cert.Proof.Pass Cert.Proof.Setup

variable {F : FTy → Type} [FloatOps F]

local notation "𝕄" => MT nD τ sig (HIx 1) (Elt F) ℕ UU ℕ

local notation "xV" => (Memref.whole Cert.KernelIdeal.main_v6_scv : Memref Cert.KernelIdeal.sig Kind.scVector Space.hbm Cert.KernelIdeal.S64x512 EltTy.f32)
local notation "aV" => (Memref.whole Cert.KernelIdeal.main_v7_0_scv : Memref Cert.KernelIdeal.sig Kind.scVector Space.hbm Cert.KernelIdeal.S64x256 EltTy.i32)
local notation "bV" => (Memref.whole Cert.KernelIdeal.main_v7_1_scv : Memref Cert.KernelIdeal.sig Kind.scVector Space.hbm Cert.KernelIdeal.S64x256 EltTy.i32)
local notation "sQ" => (Memref.whole Cert.KernelIdeal.cc1_scratch0 : Memref Cert.KernelIdeal.sig Kind.scVector Space.vmem Cert.KernelIdeal.S512 EltTy.f32)
local notation "sM" => (Memref.whole Cert.KernelIdeal.cc1_scratch1 : Memref Cert.KernelIdeal.sig Kind.scVector Space.vmem Cert.KernelIdeal.S256 EltTy.i32)
local notation "sR" => (Memref.whole Cert.KernelIdeal.cc1_scratch2 : Memref Cert.KernelIdeal.sig Kind.scVector Space.vmem Cert.KernelIdeal.S256 EltTy.i32)

variable (d : Dev nD) (i : grid1.Coords)

/-- The fetch of a row into the first scratch. -/
def fetchProg (A2 : Memref sig .scVector .hbm S512 .f32) (h2 : A2.view.WordExact) (s0 : DmaSems sig S_) : Pg i F PUnit.{1} := do
  Prog.lift (.enqueueDma A2 (.here sQ) (.dma s0.sem) h2 (Memref.isWhole_whole _).wordExact ⟨Or.inl rfl, trivial⟩)
  Prog.lift (.waitDma2 s0.sem A2 sQ h2 (Memref.isWhole_whole _).wordExact)

/-- The two results written out. -/
def outProg (A3 A4 : Memref sig .scVector .hbm S256 .i32) (h3 : A3.view.WordExact) (h4 : A4.view.WordExact) (s1 s2 : DmaSems sig S_) : Pg i F PUnit.{1} := do
  Prog.lift (.enqueueDma sM (.here A3) (.dma s1.sem) (Memref.isWhole_whole _).wordExact h3 ⟨Or.inl rfl, trivial⟩)
  Prog.lift (.waitDma2 s1.sem sM A3 (Memref.isWhole_whole _).wordExact h3)
  Prog.lift (.enqueueDma sR (.here A4) (.dma s2.sem) (Memref.isWhole_whole _).wordExact h4 ⟨Or.inl rfl, trivial⟩)
  Prog.lift (.waitDma2 s2.sem sR A4 (Memref.isWhole_whole _).wordExact h4)

theorem rowProg_eq (A2 : Memref sig .scVector .hbm S512 .f32) (h2 : A2.view.WordExact)
    (A3 A4 : Memref sig .scVector .hbm S256 .i32) (h3 : A3.view.WordExact) (h4 : A4.view.WordExact) (s0 s1 s2 : DmaSems sig S_) :
    (rowProg i sQ sM sR A2 h2 (Memref.isWhole_whole _) (Memref.isWhole_whole _) (Memref.isWhole_whole _) A3 A4 h3 h4 s0 s1 s2 : Pg i F PUnit.{1})
      = fetchProg i A2 h2 s0 >>= fun _ => passes i sQ sM sR >>= fun _ => outProg i A3 A4 h3 h4 s1 s2 := rfl

theorem wp_fetch (off : Fin 2 → ℕ) (h : ∀ a, off a + S1x512.size a ≤ S64x512.size a) (h2 : (inRow xV off h).view.WordExact) (s0 : DmaSems sig S_)
    (O : CellTallies nD τ sig (HIx 1)) (W : Waits sig (HIx 1)) (g : S64x512.Idx → F .f32) (f : S512.Idx → F .f32) (Q : PUnit → sProp 𝕄) :
    iprop(Transfers.MayWaits (thr d i) (default : HIx 1) O
        ∗ ((inRow xV off h).view.loc (thr d i) ↦[(inRow xV off h).view.set]{fullShare} g) ∗ qPts d i f ∗ semVal (thr d i, .dma s0.sem) 0 ∗ owes (thr d i) O W
        ∗ (∀ W', ((inRow xV off h).view.loc (thr d i) ↦[(inRow xV off h).view.set]{fullShare} g) -∗ qPts d i ((inRow xV off h).view.read (Elt F) g)
            -∗ semVal (thr d i, .dma s0.sem) 0 -∗ owes (thr d i) O W' -∗ Q ⟨⟩))
      ⊢ wp frame (wpE (defs₀ (F := F)) 𝒱₀ (thr d i) none) Set.univ (fetchProg i (inRow xV off h) h2 s0) Q := by
  iintro ⟨Hmw, Hx, Hq, Hs, HO, HQ⟩
  sl_unfold [fetchProg]
  sl_exec (disch := exact View.amount_pos _ _ (show 0 < S512.numel by decide))
  sl_step
  unfold wp_fetch.sl.dma0
  rw [View.write_whole_univ]
  iapply HQ $$ %_ Hx Hq Hs HO

theorem wp_out (off : Fin 2 → ℕ) (h : ∀ a, off a + S1x256.size a ≤ S64x256.size a) (h3 : (outRow aV off h).view.WordExact) (h4 : (outRow bV off h).view.WordExact) (s1 s2 : DmaSems sig S_)
    (O : CellTallies nD τ sig (HIx 1)) (W : Waits sig (HIx 1)) (fa fb : S64x256.Idx → BitVec 32) (fm fr : S256.Idx → BitVec 32) (Q : PUnit → sProp 𝕄) :
    iprop(Transfers.MayWaits (thr d i) (default : HIx 1) O
        ∗ ((outRow aV off h).view.loc (thr d i) ↦[(outRow aV off h).view.set]{fullShare} fa) ∗ ((outRow bV off h).view.loc (thr d i) ↦[(outRow bV off h).view.set]{fullShare} fb)
        ∗ mPts d i fm ∗ rPts d i fr ∗ semVal (thr d i, .dma s1.sem) 0 ∗ semVal (thr d i, .dma s2.sem) 0 ∗ owes (thr d i) O W
        ∗ (∀ W', ((outRow aV off h).view.loc (thr d i) ↦[(outRow aV off h).view.set]{fullShare} (outRow aV off h).view.write (Elt F) fa fm Finset.univ)
            -∗ ((outRow bV off h).view.loc (thr d i) ↦[(outRow bV off h).view.set]{fullShare} (outRow bV off h).view.write (Elt F) fb fr Finset.univ)
            -∗ mPts d i fm -∗ rPts d i fr
            -∗ semVal (thr d i, .dma s1.sem) 0 -∗ semVal (thr d i, .dma s2.sem) 0 -∗ owes (thr d i) O W' -∗ Q ⟨⟩))
      ⊢ wp frame (wpE (defs₀ (F := F)) 𝒱₀ (thr d i) none) Set.univ (outProg i (outRow aV off h) (outRow bV off h) h3 h4 s1 s2) Q := by
  iintro ⟨Hmw, Ha, Hb, Hm, Hr, Hs, Ht, HO, HQ⟩
  sl_unfold [outProg]
  sl_exec (disch := exact View.amount_pos _ _ (show 0 < S256.numel by decide))
  sl_step
  rw [← View.write_univ_eq_writes_whole, ← View.write_univ_eq_writes_whole, View.writes_nil, View.writes_nil]
  rw [show wp_out.sl.dma0 (F := F) fm = fm from rfl, show wp_out.sl.dma0_1 (F := F) fr = fr from rfl]
  iapply HQ $$ %_ Ha Hb Hm Hr Hs Ht HO

/-! ## The row's elements -/

theorem unit_emb1 (off : Fin 2 → ℕ) (h : ∀ a, off a + S1x512.size a ≤ S64x512.size a) (r : Fin 64) (ho : off = ![r.val, 0]) (j : S512.Idx) :
    (Rect.unit (s := S64x512) off S1x512.size h).emb (Shape.reshapeEquiv squeezes_S1x512_S512.numel_eq j) = ixR r (j 0) := by
  have e : Shape.reshapeEquiv squeezes_S1x512_S512.numel_eq j = (fun a => Fin.cases (0 : Fin 1) (fun b => b.cases (j 0) (fun x => x.elim0)) a : S1x512.Idx) :=
    Shape.reshapeEquiv_eq_of_vals _ _ _ (j 0).val (j 0).val (by rw [Shape.rowMajor_val_two]; show 0 * 512 + (j 0).val = _; omega) (by rw [Shape.rowMajor_val_one]) rfl
  rw [e]; subst ho
  funext a
  apply Fin.ext
  match a with
  | 0 => show r.val + 1 * 0 = r.val; omega
  | 1 => show 0 + 1 * (j 0).val = (j 0).val; omega

theorem read_inRow (off : Fin 2 → ℕ) (h : ∀ a, off a + S1x512.size a ≤ S64x512.size a) (r : Fin 64) (ho : off = ![r.val, 0]) (g : S64x512.Idx → F .f32) :
    (inRow xV off h).view.read (Elt F) g = rowOf g r :=
  funext fun j => congrArg g (unit_emb1 off h r ho j)

theorem unit_emb2 (off : Fin 2 → ℕ) (h : ∀ a, off a + S1x256.size a ≤ S64x256.size a) (r : Fin 64) (ho : off = ![r.val, 0]) (j : S256.Idx) :
    ((Rect.unit (s := S64x256) off S1x256.size h).emb (Shape.reshapeEquiv squeezes_S1x256_S256.numel_eq j) 0).val = r.val
    ∧ ((Rect.unit (s := S64x256) off S1x256.size h).emb (Shape.reshapeEquiv squeezes_S1x256_S256.numel_eq j) 1).val = (j 0).val := by
  have e : Shape.reshapeEquiv squeezes_S1x256_S256.numel_eq j = (fun a => Fin.cases (0 : Fin 1) (fun b => b.cases (j 0) (fun x => x.elim0)) a : S1x256.Idx) :=
    Shape.reshapeEquiv_eq_of_vals _ _ _ (j 0).val (j 0).val (by rw [Shape.rowMajor_val_two]; show 0 * 256 + (j 0).val = _; omega) (by rw [Shape.rowMajor_val_one]) rfl
  rw [e]; subst ho
  exact ⟨by show r.val + 1 * 0 = r.val; omega, by show 0 + 1 * (j 0).val = (j 0).val; omega⟩

theorem rect1_eq (off : Fin 2 → ℕ) (h : ∀ a, off a + S1x512.size a ≤ S64x512.size a) (r : Fin 64) (ho : off = ![r.val, 0]) :
    Rect.unit (s := S64x512) off S1x512.size h = row1 r := by
  subst ho
  unfold row1 Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem rect2_eq (off : Fin 2 → ℕ) (h : ∀ a, off a + S1x256.size a ≤ S64x256.size a) (r : Fin 64) (ho : off = ![r.val, 0]) :
    Rect.unit (s := S64x256) off S1x256.size h = row2 r := by
  subst ho
  unfold row2 Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem pts_in (off : Fin 2 → ℕ) (h : ∀ a, off a + S1x512.size a ≤ S64x512.size a) (r : Fin 64) (ho : off = ![r.val, 0]) (g : S64x512.Idx → F .f32) :
    ((inRow xV off h).view.loc (thr d i) ↦[(inRow xV off h).view.set]{fullShare} g : sProp 𝕄) = xLoc d ↦[rs1 r]{fullShare} g := by
  rw [show (inRow xV off h).view.set = rs1 r from by
    show (((xV).view.slice (Rect.unit (s := S64x512) off S1x512.size h)).reshape S512 squeezes_S1x512_S512.numel_eq).set = _
    rw [View.set_reshape, View.set_slice]
    exact (Finset.map_refl).trans (rect1_eq off h r ho ▸ rfl)]

theorem pts_outA (off : Fin 2 → ℕ) (h : ∀ a, off a + S1x256.size a ≤ S64x256.size a) (r : Fin 64) (ho : off = ![r.val, 0]) (f : S64x256.Idx → BitVec 32) :
    ((outRow aV off h).view.loc (thr d i) ↦[(outRow aV off h).view.set]{fullShare} f : sProp 𝕄) = aLoc d ↦[rs2 r]{fullShare} f := by
  rw [show (outRow aV off h).view.set = rs2 r from by
    show (((aV).view.slice (Rect.unit (s := S64x256) off S1x256.size h)).reshape S256 squeezes_S1x256_S256.numel_eq).set = _
    rw [View.set_reshape, View.set_slice]
    exact (Finset.map_refl).trans (rect2_eq off h r ho ▸ rfl)]

theorem pts_outB (off : Fin 2 → ℕ) (h : ∀ a, off a + S1x256.size a ≤ S64x256.size a) (r : Fin 64) (ho : off = ![r.val, 0]) (f : S64x256.Idx → BitVec 32) :
    ((outRow bV off h).view.loc (thr d i) ↦[(outRow bV off h).view.set]{fullShare} f : sProp 𝕄) = bLoc d ↦[rs2 r]{fullShare} f := by
  rw [show (outRow bV off h).view.set = rs2 r from by
    show (((bV).view.slice (Rect.unit (s := S64x256) off S1x256.size h)).reshape S256 squeezes_S1x256_S256.numel_eq).set = _
    rw [View.set_reshape, View.set_slice]
    exact (Finset.map_refl).trans (rect2_eq off h r ho ▸ rfl)]

theorem written_A (off : Fin 2 → ℕ) (h : ∀ a, off a + S1x256.size a ≤ S64x256.size a) (r : Fin 64) (ho : off = ![r.val, 0]) (fa : S64x256.Idx → BitVec 32)
    (g : S64x512.Idx → F .f32) (gm : S256.Idx → BitVec 32) (hg : ImapUpTo (rowOf g r) 256 gm) :
    ((outRow aV off h).view.loc (thr d i) ↦[(outRow aV off h).view.set]{fullShare} (outRow aV off h).view.write (Elt F) fa gm Finset.univ : sProp 𝕄)
      = aLoc d ↦[rs2 r]{fullShare} imapF g := by
  rw [← pts_outA d i off h r ho (imapF g)]
  refine pointsTo_congr fun x hx => ?_
  obtain ⟨j, -, rfl⟩ := Finset.mem_map.mp hx
  rw [View.write_emb_of_mem _ _ (Finset.mem_univ _)]
  have e := unit_emb2 off h r ho j
  show gm j = imapF g ((Rect.unit (s := S64x256) off S1x256.size h).emb (Shape.reshapeEquiv squeezes_S1x256_S256.numel_eq j))
  unfold imapF
  rw [imap_full hg, e.2, show (Rect.unit (s := S64x256) off S1x256.size h).emb (Shape.reshapeEquiv squeezes_S1x256_S256.numel_eq j) 0 = r from Fin.ext e.1]

theorem written_B (off : Fin 2 → ℕ) (h : ∀ a, off a + S1x256.size a ≤ S64x256.size a) (r : Fin 64) (ho : off = ![r.val, 0]) (fa : S64x256.Idx → BitVec 32)
    (g : S64x512.Idx → F .f32) (gm : S256.Idx → BitVec 32) (hg : InvUpTo (rowOf g r) 256 gm) :
    ((outRow bV off h).view.loc (thr d i) ↦[(outRow bV off h).view.set]{fullShare} (outRow bV off h).view.write (Elt F) fa gm Finset.univ : sProp 𝕄)
      = bLoc d ↦[rs2 r]{fullShare} invF g := by
  rw [← pts_outB d i off h r ho (invF g)]
  refine pointsTo_congr fun x hx => ?_
  obtain ⟨j, -, rfl⟩ := Finset.mem_map.mp hx
  rw [View.write_emb_of_mem _ _ (Finset.mem_univ _)]
  have e := unit_emb2 off h r ho j
  show gm j = invF g ((Rect.unit (s := S64x256) off S1x256.size h).emb (Shape.reshapeEquiv squeezes_S1x256_S256.numel_eq j))
  unfold invF
  rw [inv_full hg, e.2, show (Rect.unit (s := S64x256) off S1x256.size h).emb (Shape.reshapeEquiv squeezes_S1x256_S256.numel_eq j) 0 = r from Fin.ext e.1]

/-! ## The row -/

/-- One row: from the row of the classes and the rows of the results, the scratches at anything; the results' rows left at the
    sort's. -/
theorem wp_row (r : Fin 64) (o1 : Fin 2 → ℕ) (h1 : ∀ a, o1 a + S1x512.size a ≤ S64x512.size a) (e1 : o1 = ![r.val, 0])
    (o2 : Fin 2 → ℕ) (h2 : ∀ a, o2 a + S1x256.size a ≤ S64x256.size a) (e2 : o2 = ![r.val, 0])
    (w2 : (inRow xV o1 h1).view.WordExact) (w3 : (outRow aV o2 h2).view.WordExact) (w4 : (outRow bV o2 h2).view.WordExact) (s0 s1 s2 : DmaSems sig S_)
    (O : CellTallies nD τ sig (HIx 1)) (W : Waits sig (HIx 1)) (g : S64x512.Idx → F .f32) (fa fb : S64x256.Idx → BitVec 32) (Q : PUnit → sProp 𝕄) :
    iprop(Transfers.MayWaits (thr d i) (default : HIx 1) O
        ∗ ((xLoc d ↦[rs1 r]{fullShare} g) ∗ (aLoc d ↦[rs2 r]{fullShare} fa) ∗ (bLoc d ↦[rs2 r]{fullShare} fb))
        ∗ ((∃ f, qPts d i f) ∗ (∃ f, mPts d i f) ∗ (∃ f, rPts d i f))
        ∗ (semVal (thr d i, .dma s0.sem) 0 ∗ semVal (thr d i, .dma s1.sem) 0 ∗ semVal (thr d i, .dma s2.sem) 0) ∗ owes (thr d i) O W
        ∗ (∀ W', ((xLoc d ↦[rs1 r]{fullShare} g) ∗ (aLoc d ↦[rs2 r]{fullShare} imapF g) ∗ (bLoc d ↦[rs2 r]{fullShare} invF g))
            -∗ ((∃ f, qPts d i f) ∗ (∃ f, mPts d i f) ∗ (∃ f, rPts d i f))
            -∗ (semVal (thr d i, .dma s0.sem) 0 ∗ semVal (thr d i, .dma s1.sem) 0 ∗ semVal (thr d i, .dma s2.sem) 0) -∗ owes (thr d i) O W' -∗ Q ⟨⟩))
      ⊢ wp frame (wpE (defs₀ (F := F)) 𝒱₀ (thr d i) none) Set.univ
          (rowProg i sQ sM sR (inRow xV o1 h1) w2 (Memref.isWhole_whole _) (Memref.isWhole_whole _) (Memref.isWhole_whole _) (outRow aV o2 h2) (outRow bV o2 h2) w3 w4 s0 s1 s2) Q := by
  rw [rowProg_eq]
  simp only [wp_bind]
  iintro ⟨#Hmw, ⟨Hx, Ha, Hb⟩, ⟨⟨%fq, Hq⟩, ⟨%fm, Hm⟩, ⟨%fr, Hr⟩⟩, ⟨Hs0, Hs1, Hs2⟩, HO, HQ⟩
  iapply (wp_fetch d i o1 h1 w2 s0 O W g fq _)
  isplitr
  · iexact Hmw
  isplitl [Hx]
  · iapply (Entails.of_eq (pts_in (F := F) d i o1 h1 r e1 g).symm); iexact Hx
  isplitl [Hq]
  · iexact Hq
  isplitl [Hs0]
  · iexact Hs0
  isplitl [HO]
  · iexact HO
  iintro %W1 Hx Hq Hs0 HO
  rw [read_inRow o1 h1 r e1 g]
  iapply (wp_passes 𝒱₀ none d i (rowOf g r) _ fm fr)
  isplitl [Hq Hm Hr]
  · isplitl [Hq]
    · iexact Hq
    isplitl [Hm]
    · iexact Hm
    iexact Hr
  iintro %gm %gr %hg ⟨Hq, Hm, Hr⟩
  iapply (wp_out d i o2 h2 w3 w4 s1 s2 O W1 fa fb gm gr _)
  isplitr
  · iexact Hmw
  isplitl [Ha]
  · iapply (Entails.of_eq (pts_outA (F := F) d i o2 h2 r e2 fa).symm); iexact Ha
  isplitl [Hb]
  · iapply (Entails.of_eq (pts_outB (F := F) d i o2 h2 r e2 fb).symm); iexact Hb
  isplitl [Hm]
  · iexact Hm
  isplitl [Hr]
  · iexact Hr
  isplitl [Hs1]
  · iexact Hs1
  isplitl [Hs2]
  · iexact Hs2
  isplitl [HO]
  · iexact HO
  iintro %W2 Ha Hb Hm Hr Hs1 Hs2 HO
  iapply HQ $$ %W2 [Hx Ha Hb] [Hq Hm Hr] [Hs0 Hs1 Hs2] HO
  · isplitl [Hx]
    · iapply (Entails.of_eq (pts_in (F := F) d i o1 h1 r e1 g)); iexact Hx
    isplitl [Ha]
    · iapply (Entails.of_eq (written_A (F := F) d i o2 h2 r e2 fa g gm hg.1)); iexact Ha
    iapply (Entails.of_eq (written_B (F := F) d i o2 h2 r e2 fb g gr hg.2)); iexact Hb
  · isplitl [Hq]
    · iexists _; iexact Hq
    isplitl [Hm]
    · iexists _; iexact Hm
    iexists _; iexact Hr
  · isplitl [Hs0]
    · iexact Hs0
    isplitl [Hs1]
    · iexact Hs1
    iexact Hs2

end Cert.Proof.Row

end
-- ==== Proof.BodyEq.lean ====
/-
  The sorting kernel's printed body is the two-pass program.
-/
module

public import proofs.«01_k».proof.Proof.Steps

@[expose] public section

noncomputable section

namespace Cert.Proof.Steps

open Cert.KernelIdeal Cert.KernelIdeal.Gen
open Idealize.ShloMosaic Idealize.SL.Sem

variable {F : FTy → Type} [FloatOps F]

set_option maxRecDepth 1000000 in
set_option maxHeartbeats 0 in
/-- The printed body, window by window, is the task's two rows of two passes each. -/
theorem body_eq (i : grid1.Coords) (arg2 : Memref sig .scVector .hbm S64x512 .f32) (harg2 : arg2.IsWhole) (arg3 : Memref sig .scVector .hbm S64x256 .i32) (harg3 : arg3.IsWhole)
    (arg4 : Memref sig .scVector .hbm S64x256 .i32) (harg4 : arg4.IsWhole) (A5 : Memref sig .scVector .vmem S512 .f32) (h5 : A5.IsWhole)
    (A6 : Memref sig .scVector .vmem S256 .i32) (h6 : A6.IsWhole) (A7 : Memref sig .scVector .vmem S256 .i32) (h7 : A7.IsWhole) (s0 s1 s2 s3 s4 s5 : DmaSems sig S_) :
    (cc1__sort_body i arg2 harg2 arg3 harg3 arg4 harg4 A5 h5 A6 h6 A7 h7 s0 s1 s2 s3 s4 s5 : Pg i F PUnit.{1})
      = taskProg i arg2 arg3 arg4 A5 h5 A6 h6 A7 h7 s0 s1 s2 s3 s4 s5 := by
  rfl

end Cert.Proof.Steps

end
-- ==== Proof.Tile.lean ====
/-
  One task of the SparseCore call — two rows of the pooled classes sorted — and what the launch's signals hand it and take from it.
-/
module

public import proofs.«01_k».proof.Proof.Row
public import proofs.«01_k».proof.Proof.BodyEq

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Steps Cert.Proof.Ranks Cert.Proof.Lanes Cert.Proof.Pass Cert.Proof.Setup Cert.Proof.Row

variable {F : FTy → Type} [FloatOps F]

local notation "𝕄" => MT nD τ sig (HIx 1) (Elt F) ℕ UU ℕ

local notation "xV" => (Memref.whole Cert.KernelIdeal.main_v6_scv : Memref Cert.KernelIdeal.sig Kind.scVector Space.hbm Cert.KernelIdeal.S64x512 EltTy.f32)
local notation "aV" => (Memref.whole Cert.KernelIdeal.main_v7_0_scv : Memref Cert.KernelIdeal.sig Kind.scVector Space.hbm Cert.KernelIdeal.S64x256 EltTy.i32)
local notation "bV" => (Memref.whole Cert.KernelIdeal.main_v7_1_scv : Memref Cert.KernelIdeal.sig Kind.scVector Space.hbm Cert.KernelIdeal.S64x256 EltTy.i32)
local notation "sQ" => (Memref.whole Cert.KernelIdeal.cc1_scratch0 : Memref Cert.KernelIdeal.sig Kind.scVector Space.vmem Cert.KernelIdeal.S512 EltTy.f32)
local notation "sM" => (Memref.whole Cert.KernelIdeal.cc1_scratch1 : Memref Cert.KernelIdeal.sig Kind.scVector Space.vmem Cert.KernelIdeal.S256 EltTy.i32)
local notation "sR" => (Memref.whole Cert.KernelIdeal.cc1_scratch2 : Memref Cert.KernelIdeal.sig Kind.scVector Space.vmem Cert.KernelIdeal.S256 EltTy.i32)

/-! ## The rows a task takes -/

/-- Row number `n` of the 64. -/
def rN (n : ℕ) : Fin 64 := ⟨n % 64, Nat.mod_lt _ (by decide)⟩

/-- Row `r` of the classes and of the two results, at contents `g`, `fa` and `fb`. -/
abbrev pcs (d : Dev nD) (r : Fin 64) (g : S64x512.Idx → F .f32) (fa fb : S64x256.Idx → BitVec 32) : sProp 𝕄 :=
  iprop((xLoc d ↦[rs1 r]{fullShare} g) ∗ (aLoc d ↦[rs2 r]{fullShare} fa) ∗ (bLoc d ↦[rs2 r]{fullShare} fb))

/-- The two rows of subcore `s` of SparseCore `c`. -/
abbrev two (d : Dev nD) (c s : ℕ) (g : S64x512.Idx → F .f32) (fa fb : S64x256.Idx → BitVec 32) : sProp 𝕄 :=
  iprop(pcs d (rN (4 * s + 2 * c)) g fa fb ∗ pcs d (rN (4 * s + 2 * c + 1)) g fa fb)

/-! ## The task's own cells and buffers -/

abbrev cell0 (d : Dev nD) (i : grid1.Coords) : GSem nD τ sig := (thr d i, .dma cc1_scoped0.sem)
abbrev cell1 (d : Dev nD) (i : grid1.Coords) : GSem nD τ sig := (thr d i, .dma cc1_scoped1.sem)
abbrev cell2 (d : Dev nD) (i : grid1.Coords) : GSem nD τ sig := (thr d i, .dma cc1_scoped2.sem)
abbrev cell3 (d : Dev nD) (i : grid1.Coords) : GSem nD τ sig := (thr d i, .dma cc1_scoped3.sem)
abbrev cell4 (d : Dev nD) (i : grid1.Coords) : GSem nD τ sig := (thr d i, .dma cc1_scoped4.sem)
abbrev cell5 (d : Dev nD) (i : grid1.Coords) : GSem nD τ sig := (thr d i, .dma cc1_scoped5.sem)

theorem ownSems0_V (d : Dev nD) (i : grid1.Coords) :
    (ownSems0 (thr d i) : sProp 𝕄)
      = iprop(semVal (cell0 d i) 0 ∗ semVal (cell1 d i) 0 ∗ semVal (cell2 d i) 0 ∗ semVal (cell3 d i) 0 ∗ semVal (cell4 d i) 0 ∗ semVal (cell5 d i) 0 ∗ bigSep (((((((ownCells (thr d i)).erase (cell0 d i)).erase (cell1 d i)).erase (cell2 d i)).erase (cell3 d i)).erase (cell4 d i)).erase (cell5 d i)) fun g => semVal g 0) := by
  unfold SparseCore.Cfg.ownSems0
  have sc (b : DmaSems sig S_) (h : (SemLoc.dma b.sem : SemLoc sig).isScoped .scVector = true) : ((thr d i, .dma b.sem) : GSem nD τ sig) ∈ ownCells (thr d i) := mem_ownCells.mpr ⟨rfl, h⟩
  have m (g : GSem nD τ sig) (h : g ∈ ({cell0 d i, cell1 d i, cell2 d i, cell3 d i, cell4 d i, cell5 d i} : Finset (GSem nD τ sig))) : g ∈ ownCells (thr d i) := by
    simp only [Finset.mem_insert, Finset.mem_singleton] at h
    rcases h with rfl | rfl | rfl | rfl | rfl | rfl <;>
      exact sc _ (by decide)
  have ne {a b : DmaSems sig S_} (h : (SemLoc.dma a.sem : SemLoc sig) ≠ .dma b.sem) : ((thr d i, .dma a.sem) : GSem nD τ sig) ≠ (thr d i, .dma b.sem) := fun e => h (congrArg Prod.snd e)
  rw [SparseCore.bigSep_erase' (i := cell0 d i) (m _ (by simp)),
    SparseCore.bigSep_erase' (i := cell1 d i) (Finset.mem_erase.mpr ⟨ne (by decide), m _ (by simp)⟩),
    SparseCore.bigSep_erase' (i := cell2 d i) (Finset.mem_erase.mpr ⟨ne (by decide), Finset.mem_erase.mpr ⟨ne (by decide), m _ (by simp)⟩⟩),
    SparseCore.bigSep_erase' (i := cell3 d i) (Finset.mem_erase.mpr ⟨ne (by decide), Finset.mem_erase.mpr ⟨ne (by decide), Finset.mem_erase.mpr ⟨ne (by decide), m _ (by simp)⟩⟩⟩),
    SparseCore.bigSep_erase' (i := cell4 d i) (Finset.mem_erase.mpr ⟨ne (by decide), Finset.mem_erase.mpr ⟨ne (by decide), Finset.mem_erase.mpr ⟨ne (by decide), Finset.mem_erase.mpr ⟨ne (by decide), m _ (by simp)⟩⟩⟩⟩),
    SparseCore.bigSep_erase' (i := cell5 d i) (Finset.mem_erase.mpr ⟨ne (by decide), Finset.mem_erase.mpr ⟨ne (by decide), Finset.mem_erase.mpr ⟨ne (by decide), Finset.mem_erase.mpr ⟨ne (by decide), Finset.mem_erase.mpr ⟨ne (by decide), m _ (by simp)⟩⟩⟩⟩⟩)]

/-- The subcore's own buffers are the three scratches, each at some contents, and the rest. -/
theorem ownBufs_V (d : Dev nD) (i : grid1.Coords) :
    (ownBufs (thr d i) : sProp 𝕄)
      = iprop((∃ f, qPts d i f) ∗ (∃ f, mPts d i f) ∗ (∃ f, rPts d i f)
          ∗ bigSep ((((ownRefs (τ := τ) (thr d i).2).erase ((thr d i).2.devRef cc1_scratch0)).erase ((thr d i).2.devRef cc1_scratch1)).erase ((thr d i).2.devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := (thr d i).2)
    (b := (thr d i).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (thr d i).2) (b := (thr d i).2.devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := (thr d i).2) (b := (thr d i).2.devRef cc1_scratch2) rfl⟩⟩)]
  rfl

/-! ## The task -/

variable (d : Dev nD) (i : grid1.Coords)

theorem rN_off (n : ℕ) (h : n < 64) : ![n, 0] = ![(rN n).val, 0] := by
  rw [show (rN n).val = n from Nat.mod_eq_of_lt h]

theorem i_lt : (i 0).val < 2 ∧ (i 1).val < 16 := ⟨(i 0).isLt, (i 1).isLt⟩

theorem tile_body (hF : (K (F := F)).Facts) (O : CellTallies nD τ sig (HIx 1)) (W : Waits sig (HIx 1)) (hO : ∀ g, O g none = 0)
    (g : S64x512.Idx → F .f32) (fa fb : S64x256.Idx → BitVec 32) :
    iprop(levAts (K (F := F)).L (K (F := F)).lev ∗ emp
        ∗ two d (i 0).val (i 1).val g fa fb
        ∗ scopedBufs (thr d i) ∗ scopedSems0 (thr d i) ∗ owes (thr d i) O W)
      ⊢ wp frame (wpE (defs₀ (F := F)) 𝒱₀ (thr d i) none) Set.univ
          (cc1__sort_body i xV (Memref.isWhole_whole _) aV (Memref.isWhole_whole _) bV (Memref.isWhole_whole _)
            sQ (Memref.isWhole_whole _) sM (Memref.isWhole_whole _) sR (Memref.isWhole_whole _) cc1_scoped0 cc1_scoped1 cc1_scoped2 cc1_scoped3 cc1_scoped4 cc1_scoped5)
          fun _ => iprop(two d (i 0).val (i 1).val g (imapF g) (invF g)
            ∗ scopedBufs (thr d i) ∗ scopedSems0 (thr d i)
            ∗ ∃ W', ⌜∀ p ∈ W', p ∈ W ∨ p.2 = none ∨ p.2 = some (0 : Fin 1)⌝ ∗ owes (thr d i) O W') := by
  have hi := i_lt i
  rw [(K (F := F)).scopedBufs_V hF d ((i 0).castLE hcore1) ((i 1).castLE hsub1), SparseCore.Cfg.scopedSems0_V (Val := Elt F) d ((i 0).castLE hcore1) ((i 1).castLE hsub1),
    ownSems0_V d i, ownBufs_V d i, body_eq]
  unfold taskProg
  simp only [wp_bind]
  iintro ⟨#Hlv, -, ⟨HA, HB⟩, ⟨Hq, Hm, Hr, Hbufs⟩, ⟨Hs0, Hs1, Hs2, Hs3, Hs4, Hs5, Hsems⟩, HO⟩
  ihave #Hmw := (show levAts (K (F := F)).L (K (F := F)).lev ⊢ Transfers.MayWaits (thr d i) (default : HIx 1) O from
    (K (F := F)).mayWaits_none (thr := thr d i) hO) $$ Hlv
  iapply (wp_row d i (rN (4 * (i 1).val + 2 * (i 0).val)) _ _ ((k1_off1_eq i).trans (rN_off _ (by omega))) _ _ ((k1_off2_eq i).trans (rN_off _ (by omega)))
    _ _ _ cc1_scoped0 cc1_scoped1 cc1_scoped2 O W g fa fb _)
  isplitr
  · iexact Hmw
  isplitl [HA]
  · iexact HA
  isplitl [Hq Hm Hr]
  · isplitl [Hq]
    · iexact Hq
    isplitl [Hm]
    · iexact Hm
    iexact Hr
  isplitl [Hs0 Hs1 Hs2]
  · isplitl [Hs0]
    · iexact Hs0
    isplitl [Hs1]
    · iexact Hs1
    iexact Hs2
  isplitl [HO]
  · iexact HO
  iintro %W1 HA ⟨Hq, Hm, Hr⟩ ⟨Hs0, Hs1, Hs2⟩ HO
  iapply (wp_row d i (rN (4 * (i 1).val + 2 * (i 0).val + 1)) _ _ ((k1_off3_eq i).trans (rN_off _ (by omega))) _ _ ((k1_off4_eq i).trans (rN_off _ (by omega)))
    _ _ _ cc1_scoped3 cc1_scoped4 cc1_scoped5 O W1 g fa fb _)
  isplitr
  · iexact Hmw
  isplitl [HB]
  · iexact HB
  isplitl [Hq Hm Hr]
  · isplitl [Hq]
    · iexact Hq
    isplitl [Hm]
    · iexact Hm
    iexact Hr
  isplitl [Hs3 Hs4 Hs5]
  · isplitl [Hs3]
    · iexact Hs3
    isplitl [Hs4]
    · iexact Hs4
    iexact Hs5
  isplitl [HO]
  · iexact HO
  iintro %W2 HB ⟨Hq, Hm, Hr⟩ ⟨Hs3, Hs4, Hs5⟩ HO
  isplitl [HA HB]
  · isplitl [HA]
    · iexact HA
    iexact HB
  isplitl [Hq Hm Hr Hbufs]
  · isplitl [Hq]
    · iexact Hq
    isplitl [Hm]
    · iexact Hm
    isplitl [Hr]
    · iexact Hr
    iexact Hbufs
  isplitl [Hs0 Hs1 Hs2 Hs3 Hs4 Hs5 Hsems]
  · isplitl [Hs0]
    · iexact Hs0
    isplitl [Hs1]
    · iexact Hs1
    isplitl [Hs2]
    · iexact Hs2
    isplitl [Hs3]
    · iexact Hs3
    isplitl [Hs4]
    · iexact Hs4
    isplitl [Hs5]
    · iexact Hs5
    iexact Hsems
  iexists _; isplitr
  swap; · iexact HO
  ipureintro; intro p _
  rcases p.2 with _ | q
  · exact .inr (.inl rfl)
  · exact .inr (.inr (congrArg some (Subsingleton.elim q 0)))

/-! ## What the handshakes carry -/

variable (g : Dev nD → S64x512.Idx → F .f32) (fa fb : Dev nD → S64x256.Idx → BitVec 32)

/-- The call takes, for each task, its two rows of the classes and of the results, and brings them back sorted. -/
def P : (K (F := F)).Pay (nD := nD) (Val := Elt F) (Name := ℕ) (U := UU) where
  st := fun q d c => bigSep Finset.univ fun i : Fin ((K (F := F)).nSub q) => two d c.val i.val (g d) (fa d) (fb d)
  dn := fun q d c => bigSep Finset.univ fun i : Fin ((K (F := F)).nSub q) => two d c.val i.val (g d) (imapF (g d)) (invF (g d))
  go := fun _ d c i => two d c.val i.val (g d) (fa d) (fb d)
  td := fun _ d c i => two d c.val i.val (g d) (imapF (g d)) (invF (g d))
  x := fun _ _ => iprop(emp)

instance P_storable : (P g fa fb).IsStorable where
  st q d c := (inferInstance : BI.Storable (upEmb : UEmb _ 𝕄) (bigSep Finset.univ fun i : Fin ((K (F := F)).nSub q) => two d c.val i.val (g d) (fa d) (fb d)))
  dn q d c := (inferInstance : BI.Storable (upEmb : UEmb _ 𝕄) (bigSep Finset.univ fun i : Fin ((K (F := F)).nSub q) => two d c.val i.val (g d) (imapF (g d)) (invF (g d))))
  go q d c i := (inferInstance : BI.Storable (upEmb : UEmb _ 𝕄) (two d c.val i.val (g d) (fa d) (fb d)))
  td q d c i := (inferInstance : BI.Storable (upEmb : UEmb _ 𝕄) (two d c.val i.val (g d) (imapF (g d)) (invF (g d))))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sort_body (coordsV c s)
          xV (Memref.isWhole_whole _) aV (Memref.isWhole_whole _) bV (Memref.isWhole_whole _)
            sQ (Memref.isWhole_whole _) sM (Memref.isWhole_whole _) sR (Memref.isWhole_whole _) cc1_scoped0 cc1_scoped1 cc1_scoped2 cc1_scoped3 cc1_scoped4 cc1_scoped5) ⟨⟩ c s := rfl

set_option maxRecDepth 8000 in
theorem tileObl (hF : (K (F := F)).Facts) : (K (F := F)).TileObl (D (F := F)) 𝒱 (P g fa fb) v₀ 0 := by
  intro d c i O W hO _ _
  simp only [show (P g fa fb).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO (g d) (fa d) (fb d)

theorem vecSplit : (K (F := F)).VecSplit' (P g fa fb) 0 := by
  intro d c
  show (bigSep Finset.univ fun i : Fin ((K (F := F)).nSub 0) => two d c.val i.val (g d) (fa d) (fb d)) ⊢ |={Set.univ}=> iprop(
      (bigSep Finset.univ fun i : Fin ((K (F := F)).nSub 0) => two d c.val i.val (g d) (fa d) (fb d))
      ∗ ((bigSep Finset.univ fun i : Fin ((K (F := F)).nSub 0) => two d c.val i.val (g d) (imapF (g d)) (invF (g d)))
          -∗ (bigSep Finset.univ fun i : Fin ((K (F := F)).nSub 0) => two d c.val i.val (g d) (imapF (g d)) (invF (g d)))))
  iintro H; imodintro
  isplitl [H]
  · iexact H
  iintro H; iexact H

/-! ## The rows split and join -/

/-- The 64 rows, task by task. -/
def eqv : (Fin 2 × Fin 16) × Fin 2 ≃ Fin 64 where
  toFun x := ⟨4 * x.1.2.val + 2 * x.1.1.val + x.2.val, by omega⟩
  invFun r := ((⟨r.val % 4 / 2, by omega⟩, ⟨r.val / 4, by omega⟩), ⟨r.val % 2, by omega⟩)
  left_inv := by
    rintro ⟨⟨a, b⟩, c⟩
    refine Prod.ext (Prod.ext (Fin.ext ?_) (Fin.ext ?_)) (Fin.ext ?_) <;> simp <;> omega
  right_inv := by
    intro r
    refine Fin.ext ?_
    simp
    omega

/-- A separating product over the 64 rows is one over the tasks, of their two rows. -/
theorem rows_tasks (Φ : Fin 64 → sProp 𝕄) :
    bigSep Finset.univ Φ = bigSep Finset.univ fun c : Fin 2 => bigSep Finset.univ fun s : Fin 16 => iprop(Φ (rN (4 * s.val + 2 * c.val)) ∗ Φ (rN (4 * s.val + 2 * c.val + 1))) := by
  rw [bigSep_univ_equiv eqv, bigSep_univ_prod, bigSep_univ_prod]
  refine bigSep_congr fun c _ => bigSep_congr fun s _ => ?_
  rw [bigSep_univ_two]
  have e (k : Fin 2) : eqv ((c, s), k) = rN (4 * s.val + 2 * c.val + k.val) := Fin.ext (Nat.mod_eq_of_lt (by omega)).symm
  rw [e, e]
  rfl

theorem xRows (f : S64x512.Idx → F .f32) : (xLoc d ↦{fullShare} f : sProp 𝕄) = bigSep Finset.univ fun r : Fin 64 => xLoc d ↦[rs1 r]{fullShare} f := by
  rw [← pointsTo_biUnion Finset.univ (ℓ := xLoc d) rs1 (fun i _ j _ h => Rect.part_disjoint hdiv1 h), Rect.biUnion_part hdiv1]; try rfl
theorem aRows (f : S64x256.Idx → BitVec 32) : (aLoc d ↦{fullShare} f : sProp 𝕄) = bigSep Finset.univ fun r : Fin 64 => aLoc d ↦[rs2 r]{fullShare} f := by
  rw [← pointsTo_biUnion Finset.univ (ℓ := aLoc d) rs2 (fun i _ j _ h => Rect.part_disjoint hdiv2 h), Rect.biUnion_part hdiv2]; try rfl
theorem bRows (f : S64x256.Idx → BitVec 32) : (bLoc d ↦{fullShare} f : sProp 𝕄) = bigSep Finset.univ fun r : Fin 64 => bLoc d ↦[rs2 r]{fullShare} f := by
  rw [← pointsTo_biUnion Finset.univ (ℓ := bLoc d) rs2 (fun i _ j _ h => Rect.part_disjoint hdiv2 h), Rect.biUnion_part hdiv2]; try rfl

/-- The three arrays whole are every task's two rows. -/
theorem whole_tasks (f : S64x512.Idx → F .f32) (ga gb : S64x256.Idx → BitVec 32) :
    (iprop((xLoc d ↦{fullShare} f) ∗ (aLoc d ↦{fullShare} ga) ∗ (bLoc d ↦{fullShare} gb)) : sProp 𝕄)
      = bigSep Finset.univ fun c : Fin 2 => bigSep Finset.univ fun s : Fin 16 => two d c.val s.val f ga gb := by
  rw [xRows, aRows, bRows, ← bigSep_sep', ← bigSep_sep', rows_tasks]

theorem st_eq : (bigSep Finset.univ fun c : Fin ((K (F := F)).nCore 0) => (P g fa fb).st 0 d c)
    = iprop((xLoc d ↦{fullShare} g d) ∗ (aLoc d ↦{fullShare} fa d) ∗ (bLoc d ↦{fullShare} fb d)) := by
  rw [whole_tasks]; rfl
theorem dn_eq : (bigSep Finset.univ fun c : Fin ((K (F := F)).nCore 0) => (P g fa fb).dn 0 d c)
    = iprop((xLoc d ↦{fullShare} g d) ∗ (aLoc d ↦{fullShare} imapF (g d)) ∗ (bLoc d ↦{fullShare} invF (g d))) := by
  rw [whole_tasks]; rfl

end Cert.Proof.Tile

end
-- ==== Proof.HostOps.lean ====
/-
  @main's host operations as three lists — before the pooling call, between the two calls, after the sorting call — and
  what each buffer of interest holds after each of them.
-/
module

public import proofs.«01_k».proof.Proof.Region
public import proofs.«01_k».proof.Proof.Tile

@[expose] public section

noncomputable section

namespace Cert.Proof.HostOps

open Cert.KernelIdeal Cert.KernelIdeal.Gen
open Idealize.ShloMosaic Idealize.ShloMosaic.TcCoe Idealize.ShloMosaic.StableHlo
open Idealize.SL.Sem
open Cert.Proof.Setup Cert.Proof.Pool

variable {F : FTy → Type} [FloatOps F]

/-- The operations before the pooling call: the selector matrix, entry (k, n) telling whether k div 32 = n. -/
def ops1 : List (HloOp τ sig (Elt F)) := [
  nullary main_v0 (iotaInDim S512x16 32 0),
  nullary main_c (constantI S_ 32 32#32),
  TRef.unary (.of main_c : TRef sig ⟨S_, .i32⟩) main_call0.v0 id,
  TRef.unary main_call0.v0 main_call0.v1 (broadcastInDim S512x16 ![] bcast_S_S512x16),
  TRef.binary (.of main_v0 : TRef sig ⟨S512x16, .i32⟩) main_call0.v1 main_call0.v2 Host.divsi,
  TRef.unary (.of main_v0 : TRef sig ⟨S512x16, .i32⟩) main_call0.v3 signi,
  TRef.unary main_call0.v0 main_call0.v4 signi,
  TRef.unary main_call0.v4 main_call0.v5 (broadcastInDim S512x16 ![] bcast_S_S512x16),
  TRef.binary main_call0.v3 main_call0.v5 main_call0.v6 (cmpi .ne),
  TRef.unary main_call0.v0 main_call0.v7 (broadcastInDim S512x16 ![] bcast_S_S512x16),
  TRef.binary (.of main_v0 : TRef sig ⟨S512x16, .i32⟩) main_call0.v7 main_call0.v8 Host.remsi,
  TRef.nullary main_call0.c (constantI S_ 32 0#32),
  TRef.unary main_call0.c main_call0.v9 (broadcastInDim S512x16 ![] bcast_S_S512x16),
  TRef.binary main_call0.v8 main_call0.v9 main_call0.v10 (cmpi .ne),
  TRef.binary main_call0.v6 main_call0.v10 main_call0.v11 andi,
  TRef.nullary main_call0.c_0 (constantI S_ 32 1#32),
  TRef.unary main_call0.c_0 main_call0.v12 (broadcastInDim S512x16 ![] bcast_S_S512x16),
  TRef.binary main_call0.v2 main_call0.v12 main_call0.v13 subi,
  TRef.ternary main_call0.v11 main_call0.v13 main_call0.v2 main_call0.call0.v0 select,
  nullary main_v2 (iotaInDim S512x16 32 1),
  binary main_v1 main_v2 main_v3 (cmpi .eq : (⟨S512x16, .i32⟩ : BufTy).Contents (Elt F) → (⟨S512x16, .i32⟩ : BufTy).Contents (Elt F) → (⟨S512x16, .i1⟩ : BufTy).Contents (Elt F)),
  unary main_v3 main_v4 (uitofp .bf16 : (⟨S512x16, .i1⟩ : BufTy).Contents (Elt F) → (⟨S512x16, .bf16⟩ : BufTy).Contents (Elt F))]

/-- The reshape between the two calls. -/
def ops2 : List (HloOp τ sig (Elt F)) := [StableHlo.reshape main_v5 main_v6 (rfl : (.f32 : EltTy) = .f32) shapeCasts_S64x2x16x16_S64x512]

/-- The batch indices, after the sorting call. -/
def ops3 : List (HloOp τ sig (Elt F)) := [
  nullary main_v8 (iotaInDim S64 32 0),
  unary main_v8 main_v9 (broadcastInDim S64x1 ![0] bcast_S64_S64x1_0 : (⟨S64, .i32⟩ : BufTy).Contents (Elt F) → (⟨S64x1, .i32⟩ : BufTy).Contents (Elt F)),
  unary main_v9 main_v10 (broadcastInDim S64x256 ![0, 1] bcast_S64x1_S64x256_0_1 : (⟨S64x1, .i32⟩ : BufTy).Contents (Elt F) → (⟨S64x256, .i32⟩ : BufTy).Contents (Elt F))]

/-- @main is the first operations, the pooling call, the reshape, the sorting call, the last operations. -/
theorem main_eq (d : Dev nD) : main (F := F) d
    = (seq ops1 >>= fun _ => Prog.lift (.customCall (SparseCore.inner (Pipeline.entry 0)) ()) >>= fun _ => seq ops2 >>= fun _ => sc.run d 0 >>= fun _ => seq ops3) := rfl

set_option maxRecDepth 8192 in
theorem ops1_sub : (ops1 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub .., binary_bufs_sub .., nullary_bufs_sub ..,
    unary_bufs_sub .., binary_bufs_sub .., ternary_bufs_sub .., nullary_bufs_sub .., binary_bufs_sub .., unary_bufs_sub ..⟩
theorem ops2_sub : (ops2 : List (HloOp τ sig (Elt F))).Forall fun op => op.bufs ⊆ tcRefs τ sig := reshape_bufs_sub ..
theorem ops3_sub : (ops3 : List (HloOp τ sig (Elt F))).Forall fun op => op.bufs ⊆ tcRefs τ sig :=
  ⟨nullary_bufs_sub .., unary_bufs_sub .., unary_bufs_sub ..⟩

/-- Every operation of a list on TensorCore references touches unscoped buffers only. -/
theorem sub_uc {ops : List (HloOp τ sig (Elt F))} (h : ops.Forall fun op => op.bufs ⊆ tcRefs τ sig) : ∀ op ∈ ops, op.bufs ⊆ Pipeline.ucRefs τ sig :=
  fun op ho => Pipeline.sub_ucRefs op ((List.forall_iff_forall_mem.mp h) op ho)

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

/-! ## The selector matrix -/

/-- The column number over 32, as the program's floor division computes it. -/
def fdiv : (⟨S512x16, .i32⟩ : BufTy).Contents (Elt F) :=
  let n := iotaInDim S512x16 32 0
  let b : (⟨S512x16, .i32⟩ : BufTy).Contents (Elt F) := broadcastInDim S512x16 ![] bcast_S_S512x16 (constantI S_ 32 32#32)
  let q := Host.divsi n b
  select (andi (cmpi .ne (signi n) (broadcastInDim S512x16 ![] bcast_S_S512x16 (signi (constantI S_ 32 32#32))))
      (cmpi .ne (Host.remsi n b) (broadcastInDim S512x16 ![] bcast_S_S512x16 (constantI S_ 32 0#32))))
    (subi q (broadcastInDim S512x16 ![] bcast_S_S512x16 (constantI S_ 32 1#32))) q

def pmat : (⟨S512x16, .bf16⟩ : BufTy).Contents (Elt F) := uitofp .bf16 (cmpi .eq (fdiv (F := F)) (iotaInDim S512x16 32 1))

variable (V : Valuation τ sig (Elt F))

set_option maxRecDepth 8192 in
theorem after1_v4 : after ops1 V (Proc.devRef .tc main_v4) = pmat := by
  simp only [ops1, TRef.binary, TRef.nullary, TRef.ternary, TRef.unary, TRef.toBuf, TRef.ofBuf, cast_eq]
  after_results_simp <;> rfl

theorem after1_arg : after ops1 V (Proc.devRef .tc main_arg0) = V (Proc.devRef .tc main_arg0) := by
  simp only [ops1, TRef.binary, TRef.nullary, TRef.ternary, TRef.unary, TRef.toBuf, TRef.ofBuf, cast_eq]
  after_results_simp <;> rfl

theorem after1_a : after ops1 V (Proc.devRef .tc main_v7_0) = V (Proc.devRef .tc main_v7_0) := by
  simp only [ops1, TRef.binary, TRef.nullary, TRef.ternary, TRef.unary, TRef.toBuf, TRef.ofBuf, cast_eq]
  after_results_simp <;> rfl
theorem after1_b : after ops1 V (Proc.devRef .tc main_v7_1) = V (Proc.devRef .tc main_v7_1) := by
  simp only [ops1, TRef.binary, TRef.nullary, TRef.ternary, TRef.unary, TRef.toBuf, TRef.ofBuf, cast_eq]
  after_results_simp <;> rfl

/-- What the reshape leaves: the pooled classes, flat. -/
theorem after2_v6 : after ops2 V (Proc.devRef .tc main_v6) = shapeCast S64x512 (V (Proc.devRef .tc main_v5) : S64x2x16x16.Idx → F .f32) shapeCasts_S64x2x16x16_S64x512 := by
  simp only [ops2]
  after_results_simp <;> rfl
theorem after2_ne (b : Ref sig .tc) (h : b ≠ main_v6) : after ops2 V (Proc.devRef .tc b) = V (Proc.devRef .tc b) :=
  after_of_forall_not_mem ops2 V fun op ho hb => by
    obtain rfl := List.mem_singleton.mp ho
    exact h (Proc.devRef_injective _ (Finset.mem_singleton.mp hb))

theorem after3_v10 : after ops3 V (Proc.devRef .tc main_v10)
    = broadcastInDim S64x256 ![0, 1] bcast_S64x1_S64x256_0_1 (broadcastInDim S64x1 ![0] bcast_S64_S64x1_0 (iotaInDim S64 32 0)) := by
  simp only [ops3]
  after_results_simp <;> rfl
theorem after3_arg : after ops3 V (Proc.devRef .tc main_arg0) = V (Proc.devRef .tc main_arg0) := by
  simp only [ops3]
  after_results_simp <;> rfl
theorem after3_a : after ops3 V (Proc.devRef .tc main_v7_0) = V (Proc.devRef .tc main_v7_0) := by
  simp only [ops3]
  after_results_simp <;> rfl
theorem after3_b : after ops3 V (Proc.devRef .tc main_v7_1) = V (Proc.devRef .tc main_v7_1) := by
  simp only [ops3]
  after_results_simp <;> rfl

end Cert.Proof.HostOps

end
-- ==== Proof.Launch.lean ====
/-
  The launch: @main on a device's TensorCore — the host operations, the pooling region, the sorting call — from the
  launch's buffers to the results, and the whole program's run from any memory.
-/
module

public import proofs.«01_k».proof.Proof.HostOps

@[expose] public section

noncomputable section

namespace Cert.Proof.Launch

open Cert.KernelIdeal Cert.KernelIdeal.Gen
open Idealize.ShloMosaic Idealize.ShloMosaic.TcCoe Idealize.ShloMosaic.StableHlo
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Pool Cert.Proof.Region Cert.Proof.HostOps

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents along @main -/

abbrev dv (b : Ref sig .tc) : DevRef τ sig := Proc.devRef .tc b

/-- At the launch; after the first operations; after the pooling; after the reshape; after the sorting; at the end. -/
def V0 (d : Dev nD) : Valuation τ sig (Elt F) := fun b => m (d, b)
def V1 (d : Dev nD) : Valuation τ sig (Elt F) := after ops1 (V0 m d)
def V2 (d : Dev nD) : Valuation τ sig (Elt F) := Function.update (V1 m d) (dv main_v5) (pooled (V1 m d (dv main_arg0)) (V1 m d (dv main_v4)))
def V3 (d : Dev nD) : Valuation τ sig (Elt F) := after ops2 (V2 m d)
def V4 (d : Dev nD) : Valuation τ sig (Elt F) :=
  Function.update (Function.update (V3 m d) (dv main_v7_0) (imapF (V3 m d (dv main_v6)))) (dv main_v7_1) (invF (V3 m d (dv main_v6)))
def V5 (d : Dev nD) : Valuation τ sig (Elt F) := after ops3 (V4 m d)

/-- The pooled classes the sorting call reads, as a function of the argument. -/
def classes (x : S64x3x512x512.Idx → F .f32) : S64x512.Idx → F .f32 := shapeCast S64x512 (pooled x pmat) shapeCasts_S64x2x16x16_S64x512

theorem V3_x (d : Dev nD) : V3 m d (dv main_v6) = classes (m (d, dv main_arg0)) := by
  unfold V3
  rw [after2_v6]
  unfold V2
  rw [Function.update_self]
  unfold V1
  rw [after1_v4, after1_arg]
  rfl

theorem V3_a (d : Dev nD) : V3 m d (dv main_v7_0) = m (d, dv main_v7_0) := by
  unfold V3 V2 V1
  rw [after2_ne _ _ (by decide), Function.update_of_ne (by decide), after1_a]; rfl
theorem V3_b (d : Dev nD) : V3 m d (dv main_v7_1) = m (d, dv main_v7_1) := by
  unfold V3 V2 V1
  rw [after2_ne _ _ (by decide), Function.update_of_ne (by decide), after1_b]; rfl

theorem V5_arg (d : Dev nD) : V5 m d (dv main_arg0) = m (d, dv main_arg0) := by
  unfold V5 V4 V3 V2 V1
  rw [after3_arg, Function.update_of_ne (by decide), Function.update_of_ne (by decide), after2_ne _ _ (by decide), Function.update_of_ne (by decide), after1_arg]; rfl
theorem V5_v10 (d : Dev nD) : V5 m d (dv main_v10)
    = broadcastInDim S64x256 ![0, 1] bcast_S64x1_S64x256_0_1 (broadcastInDim S64x1 ![0] bcast_S64_S64x1_0 (iotaInDim S64 32 0)) := after3_v10 _
theorem V5_a (d : Dev nD) : V5 m d (dv main_v7_0) = imapF (classes (m (d, dv main_arg0))) := by
  unfold V5 V4
  rw [after3_a, Function.update_of_ne (by decide), Function.update_self, V3_x]
theorem V5_b (d : Dev nD) : V5 m d (dv main_v7_1) = invF (classes (m (d, dv main_arg0))) := by
  unfold V5 V4
  rw [after3_b, Function.update_self, V3_x]

/-! ## The launch's ghost elements -/

abbrev Pm := Tile.P (fun d => V3 m d (dv main_v6)) (fun d => V3 m d (dv main_v7_0)) (fun d => V3 m d (dv main_v7_1))

/-- The pipeline's rounds, in the middle of the resource algebra. -/
abbrev EP : Emb (UR sig nD τ) (MM F) := (Emb.inl : Emb (UR sig nD τ) (UR sig nD τ × Counters)).trans embR

abbrev pinned := Pipeline.pin (pcfgs (F := F)) adm
theorem pinned_inj : Function.Injective (Pipeline.cellOf (nD := nD) (τ := τ) (pinned (F := F))) := cellOf_inj

def u₀ : UU := (initOf (K (F := F)).hsCells (K (F := F)).hsToks,
  (initOf (Pipeline.cells (pinned (F := F)) pinned_inj) (Pipeline.launchToks (pinned (F := F)) pinned_inj), 1))

/-- What the pipeline's region takes of the launch on device `d`. -/
abbrev Gh (d : Dev nD) : sProp 𝕄 := iprop(Pipeline.cellsGhost (pinned (F := F)) EP 0 d ∗ Pipeline.toksInit (pinned (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 1 => (Pm m).x q thr) := by
  unfold u₀
  iintro Hu
  ihave H := (ownU_pair _ _) $$ Hu
  icases H with ⟨HH, Hr⟩
  ihave Hp := (own_pair_emb embR _ _) $$ Hr
  icases Hp with ⟨HP, -⟩
  imod (Pipeline.fund_ghost (pinned (F := F)) EP pinned_inj) $$ HP with ⟨Hg, Ht⟩
  imodintro
  isplitl [HH]; · iexact HH
  isplitl [Hg Ht]
  · rw [bigSep_sep', show (bigSep Finset.univ fun d : Dev nD => (Pipeline.cellsGhost (pinned (F := F)) EP 0 d : sProp 𝕄))
        = bigSep Finset.univ fun d : Dev nD => bigSep Finset.univ fun p : Fin 1 => Pipeline.cellsGhost (pinned (F := F)) EP p d from
          bigSep_congr fun d _ => (bigSep_univ_of_subsingleton (Φ := fun p : Fin 1 => Pipeline.cellsGhost (pinned (F := F)) EP p d) (0 : Fin 1)).symm,
      show (bigSep Finset.univ fun d : Dev nD => (Pipeline.toksInit (pinned (F := F)) EP 0 d : sProp 𝕄))
        = bigSep Finset.univ fun d : Dev nD => bigSep Finset.univ fun p : Fin 1 => Pipeline.toksInit (pinned (F := F)) EP p d from
          bigSep_congr fun d _ => (bigSep_univ_of_subsingleton (Φ := fun p : Fin 1 => Pipeline.toksInit (pinned (F := F)) EP p d) (0 : Fin 1)).symm]
    isplitl [Hg] <;> iassumption
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## The pooling call -/

/-- The core's contents before and after the region, by TensorCore reference. -/
abbrev vin (d : Dev nD) (b : Ref sig .tc) : Buf (Elt F) ((d : Thread nD τ).loc b) := V1 m d (dv b)
abbrev vout (d : Dev nD) (b : Ref sig .tc) : Buf (Elt F) ((d : Thread nD τ).loc b) := V2 m d (dv b)

theorem vout_v5 (d : Dev nD) : vout m d main_v5 = pooled (vin m d main_arg0) (vin m d main_v4) := Function.update_self _ _ _
theorem vout_ne (d : Dev nD) (b : Ref sig .tc) (h : b ≠ main_v5) : vout m d b = vin m d b :=
  Function.update_of_ne (fun e => h (Proc.devRef_injective _ e)) _ _

/-- The region's record at these contents. -/
def regm := reg (vin m) (vout m) (vout_v5 m) (vout_ne m)

theorem regm_pre (d : Dev nD) : (regm m).pre d = iprop(unscopedBufs d (vin m d) ∗ owing (F := F) d) := rfl
theorem regm_post (d : Dev nD) : (regm m).post d = iprop(unscopedBufs d (vout m d) ∗ owing (F := F) d) := rfl

/-- The pooling region, from the buffers before it to the buffers after it. -/
theorem wp_region [∀ e, Nonempty (Elt F e)] (d : Dev nD) (Q : PUnit → sProp 𝕄) :
    iprop((iprop(boundary (SparseCore.T d) ∗ (regm m).post d) -∗ Q ⟨⟩)
      ∗ boundary (SparseCore.T d) ∗ (regm m).pre d ∗ levAts (K (F := F)).L (K (F := F)).lev ∗ Gh d)
      ⊢ wp frame (wpE (D (F := F)) 𝒱 (SparseCore.T d) none) Set.univ (.op (.customCall (Pipeline.entry 0) ()) fun _ => .ret ⟨⟩) Q := by
  have hr := (regm m).wp (pcfgs (F := F)) adm (pdats (vin m)) none pinned_inj EP defs₀ Variants.none
    (K (F := F)).L (K (F := F)).lev d none (fun u hu => nomatch hu) (fun _ => .ret ⟨⟩) Q
  refine BIBase.Entails.trans ?_ hr
  iintro ⟨Hk, H⟩
  isplitl [Hk]
  · iintro Hp
    rw [wp_ret]
    imodintro
    iapply Hk
    iexact Hp
  iexact H

/-- The pooling call of @main. -/
theorem wp_pool [∀ e, Nonempty (Elt F e)] (d : Dev nD) (Q : PUnit → sProp 𝕄) :
    iprop((iprop(boundary (SparseCore.T d) ∗ held (SparseCore.T d) (Pipeline.ucRefs τ sig) (V2 m d) ∗ owing (F := F) d) -∗ Q ⟨⟩)
      ∗ boundary (SparseCore.T d) ∗ (held (SparseCore.T d) (Pipeline.ucRefs τ sig) (V1 m d) ∗ owing (F := F) d) ∗ levAts (K (F := F)).L (K (F := F)).lev ∗ Gh d)
      ⊢ wp frame (wpE ((K (F := F)).defs (D (F := F))) 𝒱 (SparseCore.T d) none) Set.univ
          (Prog.lift (.customCall (SparseCore.inner (Pipeline.entry 0)) ())) Q := by
  have h1 := Pipeline.unscopedBufs_held (Ix := HIx 1) (Name := ℕ) (U := UU) (Lvl := ℕ) d (V1 m d)
  have h2 := Pipeline.unscopedBufs_held (Ix := HIx 1) (Name := ℕ) (U := UU) (Lvl := ℕ) d (V2 m d)
  have hr := wp_region m d Q
  rw [regm_pre, regm_post, h1, h2] at hr
  have hl := ((K (F := F)).wp_liftProg (D (F := F)) 𝒱 (SparseCore.T d) Set.univ none (.op (.customCall (Pipeline.entry 0) ()) fun _ => .ret ⟨⟩) Q)
  have he : (Prog.lift (.customCall (SparseCore.inner (Pipeline.entry 0)) ()) : Prog (TpuEff nD τ sig (Elt F) (SparseCore.Sig (ΛP (F := F)) 1) .tc) PUnit)
      = SparseCore.liftProg (Q := 1) (.op (.customCall (Pipeline.entry 0) ()) fun _ => .ret ⟨⟩) := rfl
  rw [he]
  exact hr.trans hl

/-! ## @main on the TensorCore -/

/-- What the TensorCore owes, apart from the rest of its state before the first call. -/
theorem tcSt_split (d : Dev nD) : ∃ R : sProp 𝕄, ((K (F := F)).tcSt EH d 0 : sProp 𝕄) = iprop(owing (F := F) d ∗ R) := ⟨_, rfl⟩

/-- The sorting call's three buffers. -/
abbrev S3 : Finset (DevRef τ sig) := {dv main_v6, dv main_v7_0, dv main_v7_1}
theorem S3_sub : S3 ⊆ Pipeline.ucRefs τ sig := by decide

omit [FloatOps F] in
theorem held_S3 (d : Dev nD) (W : Valuation τ sig (Elt F)) :
    (held (SparseCore.T d) S3 W : sProp 𝕄) = iprop((xLoc d ↦{fullShare} W (dv main_v6)) ∗ (aLoc d ↦{fullShare} W (dv main_v7_0)) ∗ bLoc d ↦{fullShare} W (dv main_v7_1)) := by
  unfold held S3
  rw [SparseCore.bigSep_insert' (by decide), SparseCore.bigSep_insert' (by decide), bigSep_singleton]

/-- The buffers at the end of the sorting call: the three it takes, and the rest. -/
theorem held_V4 (d : Dev nD) :
    (held (SparseCore.T d) (Pipeline.ucRefs τ sig) (V4 m d) : sProp 𝕄)
      = iprop(((xLoc d ↦{fullShare} V3 m d (dv main_v6)) ∗ (aLoc d ↦{fullShare} imapF (V3 m d (dv main_v6))) ∗ bLoc d ↦{fullShare} invF (V3 m d (dv main_v6)))
        ∗ held (SparseCore.T d) (Pipeline.ucRefs τ sig \ S3) (V3 m d)) := by
  rw [held_sub_split (SparseCore.T d) S3_sub, held_S3]
  have e1 : V4 m d (dv main_v6) = V3 m d (dv main_v6) := by
    unfold V4; rw [Function.update_of_ne (by decide), Function.update_of_ne (by decide)]
  have e2 : V4 m d (dv main_v7_0) = imapF (V3 m d (dv main_v6)) := by
    unfold V4; rw [Function.update_of_ne (by decide), Function.update_self]
  have e3 : V4 m d (dv main_v7_1) = invF (V3 m d (dv main_v6)) := by
    unfold V4; rw [Function.update_self]
  rw [e1, e2, e3, held_congr (SparseCore.T d) (V' := V3 m d) fun b hb => ?_]
  have hn := (Finset.mem_sdiff.mp hb).2
  unfold V4
  rw [Function.update_of_ne fun e => hn (by rw [e]; decide), Function.update_of_ne fun e => hn (by rw [e]; decide)]

/-- @main on device `d`'s TensorCore, from the launch's buffers to their last contents. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ held (SparseCore.T d) (Pipeline.ucRefs τ sig) (V5 m d) ∗ (K (F := F)).tcEnd d) := by
  obtain ⟨R, hR⟩ := tcSt_split (F := F) d
  have hu := Pipeline.unscopedBufs_held (Ix := HIx 1) (Name := ℕ) (U := UU) (Lvl := ℕ) d (V0 m d)
  have hu' : (unscopedBufs d (fun b => m ((SparseCore.T d).loc b)) : sProp 𝕄) = held (SparseCore.T d) (Pipeline.ucRefs τ sig) (V0 m d) := hu
  unfold SparseCore.Cfg.tcRes SparseCore.Cfg.tcEnd
  rw [hu', main_eq]
  iintro ⟨#Hctx, Hst, ⟨Hb, Hh, Hts, -⟩, HG⟩
  ihave #Hl := ((K (F := F)).ctx_levAts κ) $$ Hctx
  -- the first operations
  iapply (wp_seq (defs := (K (F := F)).defs (D (F := F))) 𝒱 none Set.univ d (Pipeline.ucRefs τ sig) _ ops1 (sub_uc ops1_sub) ops1_fresh (V0 m d)) $$ [Hb Hh]
  · isplitl [Hb] <;> iassumption
  iintro ⟨Hb, Hh⟩
  rw [show after ops1 (V0 m d) = V1 m d from rfl]
  -- the pooling call
  ihave Hst' := (BIBase.Entails.of_eq hR) $$ Hst
  icases Hst' with ⟨HO, HR⟩
  rw [wp_bind]
  iapply (wp_pool m d)
  isplitr [Hb Hh HO HG]
  swap
  · isplitl [Hb]; · iexact Hb
    isplitl [Hh HO]
    · isplitl [Hh]; · iexact Hh
      iexact HO
    isplitr; · iexact Hl
    iexact HG
  iintro ⟨Hb, Hh, HO⟩
  ihave Hst := (BIBase.Entails.of_eq hR.symm) $$ [HO HR]
  · isplitl [HO] <;> iassumption
  -- the reshape
  iapply (wp_seq (defs := (K (F := F)).defs (D (F := F))) 𝒱 none Set.univ d (Pipeline.ucRefs τ sig) _ ops2 (sub_uc ops2_sub) ops2_fresh (V2 m d)) $$ [Hb Hh]
  · isplitl [Hb] <;> iassumption
  iintro ⟨Hb, Hh⟩
  rw [show after ops2 (V2 m d) = V3 m d from rfl]
  -- the sorting call
  ihave Hs := (BIBase.Entails.of_eq ((held_sub_split (SparseCore.T d) S3_sub (V3 m d)).trans (congrArg (fun X => iprop(X ∗ _)) (held_S3 d (V3 m d))))) $$ Hh
  icases Hs with ⟨H3, Hrest⟩
  rw [wp_bind]
  iapply ((K (F := F)).wp_run (D (F := F)) 𝒱 (EH := EH) (P := Pm m) κ d 0)
  isplitr; · iexact Hctx
  isplitl [Hst]; · iexact Hst
  isplitl [H3]
  · rw [Tile.st_eq]; iexact H3
  iintro ⟨Hst, Hdn⟩
  ihave H3 := (BIBase.Entails.of_eq (Tile.dn_eq d _ _ _)) $$ Hdn
  ihave Hh := (BIBase.Entails.of_eq (held_V4 m d).symm) $$ [H3 Hrest]
  · isplitl [H3] <;> iassumption
  -- the last operations
  rw [show (seq ops3 : Prog (TpuEff nD τ sig (Elt F) (SparseCore.Sig (ΛP (F := F)) 1) .tc) PUnit) = (seq ops3 >>= pure) from (bind_pure _).symm]
  iapply (wp_seq (defs := (K (F := F)).defs (D (F := F))) 𝒱 none Set.univ d (Pipeline.ucRefs τ sig) _ ops3 (sub_uc ops3_sub) ops3_fresh (V4 m d)) $$ [Hb Hh]
  · isplitl [Hb] <;> iassumption
  iintro ⟨Hb, Hh⟩
  rw [show after ops3 (V4 m d) = V5 m d from rfl, wp_pure]; imodintro
  isplitl [Hst]; · iexact Hst
  isplitl [Hh]; · iexact Hh
  isplitl [Hb] <;> iassumption

/-! ## The run -/

def fq (d : Dev nD) (s' : Phys nD τ sig (Elt F)) : Prop := ∀ b ∈ Pipeline.ucRefs τ sig, s'.mem.mem (d, b) = V5 m d b

theorem hfin (d : Dev nD) (s' : Phys nD τ sig (Elt F)) :
    iprop(held (SparseCore.T d) (Pipeline.ucRefs τ sig) (V5 m d) ∗ SI s') ⊢ (⌜fq m d s'⌝ : sProp 𝕄) := by
  unfold held
  iintro ⟨H, HSI⟩
  ihave %h := (SI_pointsTo_bufs_agree (c := d) (st := s') (qs := fun _ => fullShare) (F := V5 m d) (Pipeline.ucRefs τ sig)) $$ [HSI H]
  · isplitl [HSI]; · iexact HSI
    iexact H
  ipureintro
  exact h

/-- What the program leaves: the batch indices, the map and its inverse, the argument as it was, every semaphore at zero. -/
def QC : PUnit × MemSt nD τ sig (Elt F) → Prop := fun r =>
  (∀ c : Dev nD, r.2.mem ((c.tc : Thread nD τ).loc main_v10) = broadcastInDim S64x256 ![0, 1] bcast_S64x1_S64x256_0_1 (broadcastInDim S64x1 ![0] bcast_S64_S64x1_0 (iotaInDim S64 32 0))
    ∧ r.2.mem ((c.tc : Thread nD τ).loc main_v7_0) = imapF (classes (m ((c.tc : Thread nD τ).loc main_arg0)))
    ∧ r.2.mem ((c.tc : Thread nD τ).loc main_v7_1) = invF (classes (m ((c.tc : Thread nD τ).loc main_arg0)))
    ∧ r.2.mem ((c.tc : Thread nD τ).loc main_arg0) = m ((c.tc : Thread nD τ).loc main_arg0))
  ∧ r.2.sem = fun _ => 0

/-- Every fair execution of the program ends so, from any memory. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => Tile.tileObl _ _ _ facts)
    (fun q _ => match q with | 0 => SparseCore.Cfg.VecSplit.of_plain (Tile.vecSplit _ _ _))
    m ρ main (fun d => Gh d) (fun d => held (SparseCore.T d) (Pipeline.ucRefs τ sig) (V5 m d)) (u₀ (F := F)) (sep_elim_left.trans (hu₀ m)) (hmain m ρ) (fq m) (hfin m) (QC m)
    (fun s' h hz => ⟨fun c => ⟨(h c (dv main_v10) (by decide)).trans (V5_v10 m c), (h c (dv main_v7_0) (by decide)).trans (V5_a m c), (h c (dv main_v7_1) (by decide)).trans (V5_b m c),
      (h c (dv main_arg0) (by decide)).trans (V5_arg m c)⟩, hz⟩)

end Cert.Proof.Launch

end
-- ==== Proof.Frames.lean ====
/-
  The frames: the kernel's at words and at extended reals, both from the one run of the program, and the reference's.
-/
module

public import proofs.«01_k».proof.Proof.Launch
public import proofs.«01_k».proof.Proof.Gen.Kernel
public import proofs.«01_k».proof.Proof.Gen.ReferenceIdeal.Run
public import proofs.«01_k».proof.Defs

@[expose] public section

noncomputable section

namespace Cert.Proof.Frames

open Idealize.ShloMosaic Idealize.SL.Sem

section
variable {F : FTy → Type} [FloatOps F]

set_option maxRecDepth 1000000 in
set_option maxHeartbeats 0 in
/-- The two printed sorting bodies are one text. -/
theorem sort_body_eq : Cert.Kernel.cc1__sort_body (F := F) = Cert.KernelIdeal.cc1__sort_body := by rfl

set_option maxRecDepth 1000000 in
/-- So the kernels' body tables agree, -/
theorem defs0_eq : Cert.Kernel.defs₀ (F := F) = Cert.KernelIdeal.defs₀ := by
  funext p l a
  match p, l, a with
  | .tc, 0, (t, s) => rfl
  | .tc, 1, a => rfl
  | .scScalar _, 0, a => rfl
  | .scScalar _, 1, a => rfl
  | .scVector _ _, 0, a => rfl
  | .scVector c s, 1, a => rfl

/-- and the programs' body tables. -/
theorem defs_eq : Cert.Kernel.defs (F := F) = Cert.KernelIdeal.defs :=
  congrArg (fun X => (Cert.KernelIdeal.sc (F := F)).defs (Pipeline.defs Cert.KernelIdeal.pcfgs X)) defs0_eq

end

/-- The kernel at words: its program is the idealized one's. -/
theorem frame_kernel : Cert.quiescent_Kernel := fun m ρ _ => by
  rw [defs_eq]
  exact (θ_run Cert.KernelIdeal.defs _ _).mono (fun _ h => ⟨fun c => (h.1 c).2.2.2, h.2⟩) (Launch.run_main (F := Bits) m ρ)

/-- The idealized kernel. -/
theorem frame_ideal : Cert.quiescent_KernelIdeal := fun m ρ _ =>
  (θ_run Cert.KernelIdeal.defs _ _).mono (fun _ h => ⟨fun c => (h.1 c).2.2.2, h.2⟩) (Launch.run_main (F := Ideal) m ρ)

/-- The reference: its program declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof.Frames

end
-- ==== Proof.RefTerms.lean ====
/-
  The reference's two results as named terms: the pooled array, the sort keys, the sorted positions and the scatter.
-/
module

public import proofs.«01_k».proof.Proof.Gen.ReferenceIdeal.Run

@[expose] public section

noncomputable section

namespace Cert.Proof.RefTerms

open Cert.ReferenceIdeal Cert.ReferenceIdeal.Gen Cert.ReferenceIdeal.Value
open Idealize.ShloMosaic Idealize.ShloMosaic.TcCoe

variable {F : FTy → Type} [FloatOps F]

/-- The maximum of every 32 by 32 patch. -/
def poolR (x : S64x3x512x512.Idx → F .f32) : S64x3x16x16.Idx → F .f32 :=
  Host.reduceWindow FloatOps.maximumf ![1, 1, 32, 32] ![1, 1, 32, 32] ![0, 0, 0, 0] ![0, 0, 0, 0] x
    (broadcastInDim S_ ![] bcast_S_S_ (constant S_ .f32 0xFF800000#32)) reduceWindows_S64x3x512x512_S64x3x16x16_w1s1p0_0_w1s1p0_0_w32s32p0_0_w32s32p0_0 h_S_

/-- The number `w` in every place of a pooled array, and of one channel of it. -/
abbrev all4 (w : BitVec 32) : S64x3x16x16.Idx → F .f32 := broadcastInDim S64x3x16x16 ![] bcast_S_S64x3x16x16 (constant S_ .f32 w)
/-- A float word in every place of a pooled channel. -/
abbrev all3 (w : BitVec 32) : S64x16x16.Idx → F .f32 := broadcastInDim S64x16x16 ![] bcast_S_S64x16x16 (constant S_ .f32 w)

/-- The pooled array with everything above 0.4 replaced by one. -/
def highR (y : S64x3x16x16.Idx → F .f32) : S64x3x16x16.Idx → F .f32 := select (cmpf .ogt y (all4 0x3ECCCCCD#32)) (all4 0x3F800000#32) y

/-- That array with everything that is not one replaced by zero. -/
def onesR (y : S64x3x16x16.Idx → F .f32) : S64x3x16x16.Idx → F .f32 :=
  select (cmpf .une (highR y) (all4 0x3F800000#32)) (all4 0x00000000#32) (highR y)

/-- The sort keys before they are laid out in rows: two where channel one holds a one, else zero where channel zero does, else one. -/
def key3 (o : S64x3x16x16.Idx → F .f32) : S64x16x16.Idx → F .f32 :=
  select (cmpf .oeq (shapeCast S64x16x16 (extractStridedSlice S64x1x16x16 ![0, 1, 0, 0] o slices_S64x3x16x16_S64x1x16x16_0_1_0_0) shapeCasts_S64x1x16x16_S64x16x16) (all3 0x3F800000#32))
    (all3 0x40000000#32)
    (select (cmpf .oeq (shapeCast S64x16x16 (extractStridedSlice S64x1x16x16 ![0, 0, 0, 0] o slices_S64x3x16x16_S64x1x16x16_0_0_0_0) shapeCasts_S64x1x16x16_S64x16x16) (all3 0x3F800000#32))
      (all3 0x00000000#32) (all3 0x3F800000#32))

/-- The sort keys, a row per image. -/
def keyR (x : S64x3x512x512.Idx → F .f32) : S64x256.Idx → F .f32 :=
  shapeCast S64x256 (key3 (onesR (poolR x))) shapeCasts_S64x16x16_S64x256

/-- The positions of every row sorted by key. -/
def sortR (k : S64x256.Idx → F .f32) : S64x256.Idx → BitVec 32 :=
  (Host.sort2 S64x256 1 comparator_f32_i32_d1 k (iotaInDim S64x256 32 1)).2

/-- The row's number beside each position, and the position itself: where the scatter writes. -/
def idxR (v : S64x256.Idx → BitVec 32) : S64x256x2.Idx → BitVec 32 :=
  concatenate S64x256x2 2 [⟨S64x256x1, (broadcastInDim S64x256x1 ![0, 1] bcast_S64x256_S64x256x1_0_1 (broadcastInDim S64x256 ![0, 1] bcast_S64x1_S64x256_0_1 (select (cmpi .slt (broadcastInDim S64x1 ![0] bcast_S64_S64x1_0 (iotaInDim S64 32 0)) (broadcastInDim S64x1 ![] bcast_S_S64x1 (constantI S_ 32 0#32))) (addi (broadcastInDim S64x1 ![0] bcast_S64_S64x1_0 (iotaInDim S64 32 0)) (broadcastInDim S64x1 ![] bcast_S_S64x1 (constantI S_ 32 64#32))) (broadcastInDim S64x1 ![0] bcast_S64_S64x1_0 (iotaInDim S64 32 0)))))⟩,
    ⟨S64x256x1, (broadcastInDim S64x256x1 ![0, 1] bcast_S64x256_S64x256x1_0_1 (select (cmpi .slt v (broadcastInDim S64x256 ![] bcast_S_S64x256 (constantI S_ 32 0#32))) (addi v (broadcastInDim S64x256 ![] bcast_S_S64x256 (constantI S_ 32 256#32))) v))⟩] concatenates_S64x256x1_S64x256x1_S64x256x2_d2

/-- The place of every position in its sorted row, by a scatter. -/
def scatR (v : S64x256.Idx → BitVec 32) : S64x256.Idx → BitVec 32 :=
  Host.scatter scatter_S64x256_S64x256x2_S64x256_n_01_01_2 (fun _ b => b) (broadcastInDim S64x256 ![] bcast_S_S64x256 (constantI S_ 32 0#32)) (idxR v)
    (broadcastInDim S64x256 ![0, 1] bcast_S1x256_S64x256_0_1 (broadcastInDim S1x256 ![1] bcast_S256_S1x256_1 (iotaInDim S256 32 0)))

variable (m : (ℓ : Loc nD τ sig) → Buf (Elt F) ℓ) (c : Dev nD)

set_option maxRecDepth 8192 in
/-- The reference's second result is the sorted positions. -/
theorem res20 : res_main_v20 m c = sortR (keyR (m ((c.tc : Thread nD τ).loc main_arg0))) := rfl

set_option maxRecDepth 8192 in
/-- The reference's third result is the scatter of those. -/
theorem res41 : res_main_v41 m c = scatR (sortR (keyR (m ((c.tc : Thread nD τ).loc main_arg0)))) := rfl

end Cert.Proof.RefTerms

end
-- ==== Proof.RefMask.lean ====
/-
  The reference's keys over the extended reals: a patch's maximum is above 0.4 exactly when one of its elements is,
  and a position's key is two, zero or one accordingly.
-/
module

public import proofs.«01_k».proof.Proof.RefTerms
public import Idealize.ShloMosaic.Lib.PointwiseCore
public import Idealize.ShloMosaic.Lib.ValueIdx
public import Idealize.ShloMosaic.Lib.IdealHost

@[expose] public section

noncomputable section

namespace Cert.Proof.RefMask

open Cert.ReferenceIdeal Cert.ReferenceIdeal.Gen Cert.Proof.RefTerms
open Idealize.ShloMosaic hiding ix2 eq_ix2 ix3 ix4 eq_ix4
open Idealize.ShloMosaic.ValueIdx (ix2 eq_ix2 ix3 ix4 eq_ix4)

/-- The threshold, 0.4 rounded to single precision. -/
def thr : EReal := Ideal.ofBits .f32 0x3ECCCCCD#32

/-- A running maximum is above a number when what it starts from is, or one of the elements. -/
theorem lt_foldl_max {ι : Type} (τ v : EReal) (f : ι → EReal) (l : List ι) :
    τ < l.foldl (fun r n => max r (f n)) v ↔ τ < v ∨ ∃ n ∈ l, τ < f n := by
  induction l generalizing v with
  | nil => simp
  | cons a l ih =>
    rw [List.foldl_cons, ih, lt_max_iff]
    simp only [List.mem_cons, exists_eq_or_imp, or_assoc]

/-- A windowed maximum without padding is above a number when the initial value is, or an element of the window. -/
theorem lt_reduceWindow {s t u : Shape} (window strides lo hi : Fin s.rank → ℕ) (x : s.Idx → Ideal .f32) (init : u.Idx → Ideal .f32)
    (h : s.ReduceWindows window strides lo hi t) (hu : 0 < u.numel) (j : t.Idx) (τ : EReal)
    (hall : ∀ (i : (⟨s.rank, window⟩ : Shape).Idx) (a : Fin s.rank),
      lo a ≤ (j (a.cast h.1.symm)).val * strides a + (i a).val ∧ (j (a.cast h.1.symm)).val * strides a + (i a).val - lo a < s.size a) :
    τ < (Host.reduceWindow (FloatOps.maximumf (F := Ideal) (φ := .f32)) window strides lo hi x init h hu j : EReal) ↔
      τ < (init (Shape.Idx.first hu) : EReal) ∨ ∃ i : (⟨s.rank, window⟩ : Shape).Idx,
        τ < (x (fun a => ⟨(j (a.cast h.1.symm)).val * strides a + (i a).val - lo a, (hall i a).2⟩) : EReal) := by
  unfold Host.reduceWindow
  refine (lt_foldl_max τ _ _ _).trans (or_congr_right ⟨?_, ?_⟩)
  · rintro ⟨n, -, hn⟩
    exact ⟨(⟨s.rank, window⟩ : Shape).rowMajor.symm n, lt_of_lt_of_eq hn (dif_pos (hall _))⟩
  · rintro ⟨i, hi⟩
    obtain ⟨n, rfl⟩ := (⟨s.rank, window⟩ : Shape).rowMajor.symm.surjective i
    refine ⟨n, List.mem_finRange _, lt_of_lt_of_eq hi (Eq.symm ?_)⟩
    exact dif_pos (hall ((⟨s.rank, window⟩ : Shape).rowMajor.symm n))

/-- The word of minus infinity is the least extended real. -/
theorem bot_f32 : Ideal.ofBits .f32 0xFF800000#32 = ⊥ := by
  simp [Ideal.ofBits, Ideal.ieee]

/-- Place `(r, s)` of patch `(h, w)` of channel `ch` of image `b`. -/
def patchIx (b : Fin 64) (ch : Fin 3) (h w : Fin 16) (r s : Fin 32) : S64x3x512x512.Idx :=
  ix4 b ch (⟨h.val * 32 + r.val, by omega⟩ : Fin 512) (⟨w.val * 32 + s.val, by omega⟩ : Fin 512)

/-- Some element of the patch is above the threshold. -/
def hit (x : S64x3x512x512.Idx → Ideal .f32) (b : Fin 64) (ch : Fin 3) (h w : Fin 16) : Prop :=
  ∃ r s : Fin 32, thr < (x (patchIx b ch h w r s) : EReal)

/-- A patch's maximum is above the threshold exactly when one of its elements is. -/
theorem poolR_gt (x : S64x3x512x512.Idx → Ideal .f32) (b : Fin 64) (ch : Fin 3) (h w : Fin 16) :
    thr < (poolR x (ix4 b ch h w) : EReal) ↔ hit x b ch h w := by
  have hh := h.isLt; have hw := w.isLt; have hb := b.isLt; have hc := ch.isLt
  have hall : ∀ (i : (⟨4, ![1, 1, 32, 32]⟩ : Shape).Idx) (a : Fin 4),
      (![0, 0, 0, 0] : Fin 4 → ℕ) a ≤ ((ix4 b ch h w : S64x3x16x16.Idx) a).val * (![1, 1, 32, 32] : Fin 4 → ℕ) a + (i a).val
        ∧ ((ix4 b ch h w : S64x3x16x16.Idx) a).val * (![1, 1, 32, 32] : Fin 4 → ℕ) a + (i a).val - (![0, 0, 0, 0] : Fin 4 → ℕ) a < S64x3x512x512.size a := fun i a => by
    match a with
    | ⟨0, _⟩ => have hi : (i 0).val < 1 := (i 0).isLt; exact ⟨Nat.zero_le _, show b.val * 1 + (i 0).val - 0 < 64 by omega⟩
    | ⟨1, _⟩ => have hi : (i 1).val < 1 := (i 1).isLt; exact ⟨Nat.zero_le _, show ch.val * 1 + (i 1).val - 0 < 3 by omega⟩
    | ⟨2, _⟩ => have hi : (i 2).val < 32 := (i 2).isLt; exact ⟨Nat.zero_le _, show h.val * 32 + (i 2).val - 0 < 512 by omega⟩
    | ⟨3, _⟩ => have hi : (i 3).val < 32 := (i 3).isLt; exact ⟨Nat.zero_le _, show w.val * 32 + (i 3).val - 0 < 512 by omega⟩
  unfold poolR
  refine (lt_reduceWindow (s := S64x3x512x512) (t := S64x3x16x16) (u := S_) ![1, 1, 32, 32] ![1, 1, 32, 32] ![0, 0, 0, 0] ![0, 0, 0, 0] x _ _ h_S_ (ix4 b ch h w) thr hall).trans ?_
  have hv : (broadcastInDim S_ ![] bcast_S_S_ (constant (F := Ideal) S_ .f32 0xFF800000#32) (Shape.Idx.first h_S_) : EReal) = ⊥ := bot_f32
  rw [hv]
  have key : ∀ (i : (⟨4, ![1, 1, 32, 32]⟩ : Shape).Idx) (k : S64x3x512x512.Idx), (∀ a : Fin 4, (k a).val = ((ix4 b ch h w : S64x3x16x16.Idx) a).val * (![1, 1, 32, 32] : Fin 4 → ℕ) a + (i a).val - (![0, 0, 0, 0] : Fin 4 → ℕ) a) →
      k = patchIx b ch h w (i 2) (i 3) := fun i k hk => by
    funext a; apply Fin.ext; rw [hk a]
    match a with
    | ⟨0, _⟩ => have hi : (i 0).val < 1 := (i 0).isLt; show b.val * 1 + (i 0).val - 0 = b.val; omega
    | ⟨1, _⟩ => have hi : (i 1).val < 1 := (i 1).isLt; show ch.val * 1 + (i 1).val - 0 = ch.val; omega
    | ⟨2, _⟩ => rfl
    | ⟨3, _⟩ => rfl
  constructor
  · rintro (h0 | ⟨i, hi⟩)
    · exact absurd h0 not_lt_bot
    · refine ⟨i 2, i 3, ?_⟩
      refine lt_of_lt_of_eq hi (congrArg x ?_)
      exact key i _ fun a => rfl
  · rintro ⟨r, s, hi⟩
    refine Or.inr ⟨ix4 (0 : Fin 1) (0 : Fin 1) r s, ?_⟩
    refine lt_of_lt_of_eq hi (congrArg x (Eq.symm ?_))
    exact key (ix4 (0 : Fin 1) (0 : Fin 1) r s) _ fun a => rfl

/-- The threshold is below one. -/
theorem thr_lt_one : thr < 1 := by
  have h : thr = (((13421773 : ℝ) * 2 ^ (-25 : ℤ) : ℝ) : EReal) := by
    simp [thr, Ideal.ofBits, Ideal.ieee]
  rw [h, ← EReal.coe_one, EReal.coe_lt_coe_iff]
  norm_num

/-- The word of two. -/
theorem two_f32 : Ideal.ofBits .f32 0x40000000#32 = 2 := by
  have h : Ideal.ofBits .f32 0x40000000#32 = ((2 : ℝ) : EReal) := by
    simp [Ideal.ofBits, Ideal.ieee, -EReal.coe_mul]
    norm_num
  rw [h]; rfl

/-- The ordered comparisons over the extended reals: greater, -/
theorem cmp_ogt (a b : EReal) : FloatOps.cmpf (F := Ideal) (φ := .f32) .ogt a b = BitVec.ofBool (decide (b < a)) := rfl
/-- equal, -/
theorem cmp_oeq (a b : EReal) : FloatOps.cmpf (F := Ideal) (φ := .f32) .oeq a b = BitVec.ofBool (decide (a = b)) := rfl
/-- and different. -/
theorem cmp_une (a b : EReal) : FloatOps.cmpf (F := Ideal) (φ := .f32) .une a b = BitVec.ofBool (decide (a ≠ b)) := rfl

/-- A selection by a decided bit is a case distinction. -/
theorem select_bool {α : Type} (p : Prop) [Decidable p] (a b : α) : Scalar.select (BitVec.ofBool (decide p)) a b = if p then a else b := by
  by_cases h : p
  · rw [if_pos h, decide_eq_true h]; exact ValueIdx.select_one a b
  · rw [if_neg h, decide_eq_false h]; exact ValueIdx.select_zero a b

/-- One place of the array of ones: one exactly where the pooled maximum is above the threshold. -/
theorem onesR_eq_one (y : S64x3x16x16.Idx → Ideal .f32) (i : S64x3x16x16.Idx) : (onesR y i : EReal) = 1 ↔ thr < (y i : EReal) := by
  have e : (onesR y i : EReal) = if (if thr < (y i : EReal) then 1 else (y i : EReal)) ≠ 1 then 0 else (if thr < (y i : EReal) then 1 else (y i : EReal)) := by
    unfold onesR highR
    pointwise
    simp only [cmp_ogt, cmp_une, select_bool, Ideal.ofBits_def, Ideal.ofBits_one_f32, Ideal.ofBits_zero_f32]
    rfl
  rw [e]
  by_cases h : thr < (y i : EReal)
  · simp [h]
  · have h1 : (y i : EReal) ≠ 1 := fun h1 => h (h1 ▸ thr_lt_one)
    simp [h, h1]

open Classical in
/-- The key of a position: two where its patch of channel one has an element above the threshold, else zero where that
    of channel zero has, else one. -/
theorem keyR_at (x : S64x3x512x512.Idx → Ideal .f32) (b : Fin 64) (p : Fin 256) :
    (keyR x (ix2 b p) : EReal) = if hit x b 1 ⟨p.val / 16, by omega⟩ ⟨p.val % 16, by omega⟩ then 2
      else if hit x b 0 ⟨p.val / 16, by omega⟩ ⟨p.val % 16, by omega⟩ then 0 else 1 := by
  have h1 : ∀ ch : Fin 3, (onesR (poolR x) (ix4 b ch (⟨p.val / 16, by omega⟩ : Fin 16) (⟨p.val % 16, by omega⟩ : Fin 16)) : EReal) = 1
      ↔ hit x b ch ⟨p.val / 16, by omega⟩ ⟨p.val % 16, by omega⟩ := fun ch => (onesR_eq_one _ _).trans (poolR_gt x b ch _ _)
  unfold keyR key3
  pointwise
  simp only [cmp_oeq, select_bool, Ideal.ofBits_def, Ideal.ofBits_one_f32, Ideal.ofBits_zero_f32, two_f32, ix4_eq_valueIdx]
  have h1' := h1 1
  have h0' := h1 0
  refine (if_congr h1' rfl (if_congr h0' rfl rfl))

end Cert.Proof.RefMask

end
-- ==== Proof.PoolSum.lean ====
/-
  One element of the pooling kernel's result over the extended reals: the columns of a band of rows that have an element
  above 0.4, weighted by the second operand and added up.
-/
module

public import proofs.«01_k».proof.Proof.Gen.KernelIdeal.Skeleton
public import proofs.«01_k».proof.Proof.RefMask
public import Idealize.ShloMosaic.Lib.Pointwise.Contract
public import Idealize.ShloMosaic.Lib.Pointwise.Reduce

@[expose] public section

noncomputable section

namespace Cert.Proof.PoolSum

open Cert.KernelIdeal Cert.KernelIdeal.Gen
open Cert.Proof.RefMask (thr hit patchIx select_bool cmp_ogt bot_f32)
open Idealize.ShloMosaic hiding ix2 eq_ix2 ix3 ix4 eq_ix4
open Idealize.ShloMosaic.ValueIdx (ix2 eq_ix2 ix3 ix4 eq_ix4)

/-- A bit widened to a word and read as a float is one or zero. -/
theorem ind_bool (p : Prop) [Decidable p] :
    (FloatOps.truncf (F := Ideal) .bf16 bitsLt_bf16_f32 (FloatOps.sitofp (F := Ideal) .f32 (BitVec.setWidth 32 (BitVec.ofBool (decide p)))) : EReal)
      = if p then 1 else 0 := by
  by_cases h : p
  · rw [if_pos h, decide_eq_true h]
    show ((((BitVec.setWidth 32 (BitVec.ofBool true)).toInt : ℤ) : ℝ) : EReal) = 1
    rw [show (BitVec.setWidth 32 (BitVec.ofBool true)).toInt = 1 from by decide]
    norm_num
  · rw [if_neg h, decide_eq_false h]
    show ((((BitVec.setWidth 32 (BitVec.ofBool false)).toInt : ℤ) : ℝ) : EReal) = 0
    rw [show (BitVec.setWidth 32 (BitVec.ofBool false)).toInt = 0 from by decide]
    norm_num

/-- Column `k` of a band of thirty-two rows has an element above the threshold. -/
def colHit (v : S4x2x512x512.Idx → Ideal .f32) (b : Fin 4) (ch : Fin 2) (h : Fin 16) (k : Fin 512) : Prop :=
  ∃ r : Fin 32, thr < (v (ix4 b ch (⟨h.val * 32 + r.val, by omega⟩ : Fin 512) k) : EReal)

/-- The kernel's column maximum is above the threshold exactly when an element of the column is. -/
theorem lt_col (v : S4x2x512x512.Idx → Ideal .f32) (b : Fin 4) (ch : Fin 2) (h : Fin 16) (k : Fin 512) (f : Fin 32 → EReal)
    (hf : ∀ r : Fin 32, f r = v (ix4 b ch (⟨h.val * 32 + r.val, by omega⟩ : Fin 512) k)) :
    thr < Finset.univ.fold max (⊥ : EReal) f ↔ colHit v b ch h k := by
  rw [Finset.lt_fold_max]
  simp only [not_lt_bot, false_or, Finset.mem_univ, true_and, hf]
  rfl

open Classical in
/-- An element of the pooling kernel's result: the columns with a hit, weighted by the second operand. -/
theorem pay_at (v0 : S4x2x512x512.Idx → Ideal .f32) (v8 : S512x16.Idx → Ideal .bf16) (b : Fin 4) (ch : Fin 2) (h w : Fin 16) :
    (k0_pay1 (F := Ideal) v0 v8 (ix4 b ch h w) : EReal) = ∑ k : Fin 512, (if colHit v0 b ch h k then (1 : EReal) else 0) * (v8 (ix2 k w) : EReal) := by
  have hb := b.isLt; have hch := ch.isLt; have hh := h.isLt
  unfold k0_pay1
  pointwise
  simp only [cmp_ogt, ind_bool, Ideal.ofBits_def, Ideal.ofBits_zero_f32, bot_f32]
  refine (zero_add _).trans (Finset.sum_congr rfl fun k _ => ?_)
  refine congrArg₂ (fun a b : EReal => a * b) (if_congr (lt_col v0 b ch h k _ fun r => ?_) rfl rfl) ?_
  · rw [ix4_eq_valueIdx]
    refine congrArg v0 ?_
    funext a; apply Fin.ext
    match a with
    | ⟨0, _⟩ => show (b.val * 32 + ch.val * 16 + h.val) / 32 = b.val; omega
    | ⟨1, _⟩ => show (b.val * 32 + ch.val * 16 + h.val) / 16 % 2 = ch.val; omega
    | ⟨2, _⟩ => show (b.val * 32 + ch.val * 16 + h.val) % 16 * 32 + r.val = h.val * 32 + r.val; omega
    | ⟨3, _⟩ => rfl
  · rfl

end Cert.Proof.PoolSum
end
-- ==== Proof.PoolValue.lean ====
/-
  The pooling call's values over the extended reals: a pooled place counts the columns of its patch whose maximum is
  above 0.4, so it is above one half exactly when an element of the patch is above 0.4.
-/
module

public import proofs.«01_k».proof.Proof.Launch
public import proofs.«01_k».proof.Proof.PoolSum

@[expose] public section

noncomputable section

namespace Cert.Proof.PoolValue

open Cert.KernelIdeal Cert.KernelIdeal.Gen Cert.Proof.Setup Cert.Proof.Pool Cert.Proof.HostOps Cert.Proof.PoolSum
open Cert.Proof.RefMask (thr hit patchIx select_bool cmp_ogt bot_f32)
open Idealize.ShloMosaic hiding ix2 eq_ix2 ix3 ix4 eq_ix4
open Idealize.ShloMosaic.ValueIdx (ix2 eq_ix2 ix3 ix4 eq_ix4)

/-- The word of one half. -/
theorem half_f32 : Ideal.ofBits .f32 0x3F000000#32 = (((1 : ℝ) / 2 : ℝ) : EReal) := by
  simp [Ideal.ofBits, Ideal.ieee, -EReal.coe_mul]
  norm_num

/-- The host's floor division of a row number by thirty-two, word by word. -/
theorem fdiv_word : ∀ k : Fin 512,
    Scalar.select
      (IntOp.andi
        (IntOp.cmpi .ne (if BitVec.ofNat 32 k.val = 0 then (0 : BitVec 32) else if (BitVec.ofNat 32 k.val).msb = true then -1 else 1)
          (if (32#32) = 0 then (0 : BitVec 32) else if (32#32).msb = true then -1 else 1))
        (IntOp.cmpi .ne (IntOp.remsi ArithUnit.host (BitVec.ofNat 32 k.val) 32#32) 0#32))
      (IntOp.subi (IntOp.divsi ArithUnit.host (BitVec.ofNat 32 k.val) 32#32) 1#32)
      (IntOp.divsi ArithUnit.host (BitVec.ofNat 32 k.val) 32#32) = BitVec.ofNat 32 (k.val / 32) := by
  decide +kernel

/-- A bit read as a float is one or zero. -/
theorem uitofp_bool (φ : FTy) (p : Prop) [Decidable p] : (FloatOps.uitofp (F := Ideal) φ (BitVec.ofBool (decide p)) : EReal) = if p then 1 else 0 := by
  by_cases h : p
  · rw [if_pos h, decide_eq_true h]
    show (((1 : ℕ) : ℝ) : EReal) = 1
    norm_num
  · rw [if_neg h, decide_eq_false h]
    show (((0 : ℕ) : ℝ) : EReal) = 0
    norm_num

/-- The pooling matrix: one where the column's number is the row's divided by thirty-two, zero elsewhere. -/
theorem pmat_at (k : Fin 512) (n : Fin 16) : (pmat (F := Ideal) (ix2 k n) : EReal) = if k.val / 32 = n.val then 1 else 0 := by
  have hk := k.isLt; have hn := n.isLt
  have hc : IntOp.cmpi .eq (BitVec.ofNat 32 (k.val / 32)) (BitVec.ofNat 32 n.val) = BitVec.ofBool (decide (k.val / 32 = n.val)) := by
    show BitVec.ofBool (decide _) = _
    congr 2
    rw [← BitVec.toNat_inj, BitVec.toNat_ofNat, BitVec.toNat_ofNat, Nat.mod_eq_of_lt (by omega), Nat.mod_eq_of_lt (by omega)]
  rw [← uitofp_bool .bf16, ← hc, ← fdiv_word]
  unfold pmat fdiv
  pointwise

/-- A sum of zeros and ones is above one half exactly when one of them is one. -/
theorem half_lt_sum {n : ℕ} (P Q : Fin n → Prop) [DecidablePred P] [DecidablePred Q] :
    (((1 : ℝ) / 2 : ℝ) : EReal) < ∑ k : Fin n, (if P k then (1 : EReal) else 0) * (if Q k then (1 : EReal) else 0) ↔ ∃ k, P k ∧ Q k := by
  have e : ∑ k : Fin n, (if P k then (1 : EReal) else 0) * (if Q k then (1 : EReal) else 0)
      = (((Finset.univ.filter fun k => P k ∧ Q k).card : ℕ) : EReal) := by
    rw [← Finset.sum_boole]
    refine Finset.sum_congr rfl fun k _ => ?_
    by_cases hp : P k <;> by_cases hq : Q k <;> simp [hp, hq]
  rw [e]
  constructor
  · intro h
    by_contra hn
    have h0 : (Finset.univ.filter fun k => P k ∧ Q k).card = 0 :=
      Finset.card_eq_zero.mpr (Finset.filter_eq_empty_iff.mpr fun k _ hk => hn ⟨k, hk⟩)
    rw [h0, Nat.cast_zero, ← EReal.coe_zero, EReal.coe_lt_coe_iff] at h
    norm_num at h
  · rintro ⟨k, hk⟩
    have h1 : 1 ≤ (Finset.univ.filter fun k => P k ∧ Q k).card :=
      Finset.card_pos.mpr ⟨k, Finset.mem_filter.mpr ⟨Finset.mem_univ _, hk⟩⟩
    refine lt_of_lt_of_le ?_ (show ((1 : ℕ) : EReal) ≤ _ from Nat.cast_le.mpr h1)
    rw [Nat.cast_one, ← EReal.coe_one, EReal.coe_lt_coe_iff]
    norm_num

/-- The pooled place is above one half exactly when its patch has an element above the threshold. -/
theorem pooled_gt (x : S64x3x512x512.Idx → Ideal .f32) (b : Fin 64) (ch : Fin 2) (h w : Fin 16) :
    Lanes.gt (F := Ideal) (pooled x (pmat (F := Ideal)) (ix4 b ch h w)) ↔ hit x b ⟨ch.val, by omega⟩ h w := by
  have hb := b.isLt; have hch := ch.isLt; have hh := h.isLt; have hw := w.isLt
  have e : pooled x (pmat (F := Ideal)) (ix4 b ch h w) = k0_pay1 (F := Ideal) (imgBlk x (⟨b.val / 4, by omega⟩ : Fin 16)) (pmat (F := Ideal))
      (ix4 (⟨b.val % 4, by omega⟩ : Fin 4) ch h w) := by
    show k0_pay1 (F := Ideal) (imgBlk x (outBlk (ix4 b ch h w))) (pmat (F := Ideal)) (outIx (ix4 b ch h w)) = _
    refine congrArg (k0_pay1 (F := Ideal) (imgBlk x (⟨b.val / 4, by omega⟩ : Fin 16)) (pmat (F := Ideal))) ?_
    funext a; apply Fin.ext
    match a with
    | ⟨0, _⟩ => rfl
    | ⟨1, _⟩ => rfl
    | ⟨2, _⟩ => rfl
    | ⟨3, _⟩ => rfl
  have key : ∀ (r : Fin 32) (k : Fin 512), imgBlk x (⟨b.val / 4, by omega⟩ : Fin 16)
      (ix4 (⟨b.val % 4, by omega⟩ : Fin 4) ch (⟨h.val * 32 + r.val, by omega⟩ : Fin 512) k)
      = x (ix4 b (⟨ch.val, by omega⟩ : Fin 3) (⟨h.val * 32 + r.val, by omega⟩ : Fin 512) k) := fun r k => by
    refine congrArg x ?_
    funext a; apply Fin.ext
    match a with
    | ⟨0, _⟩ => show 4 * (b.val / 4) + b.val % 4 = b.val; omega
    | ⟨1, _⟩ => rfl
    | ⟨2, _⟩ => rfl
    | ⟨3, _⟩ => rfl
  unfold Lanes.gt
  rw [e, cmp_ogt, Ideal.ofBits_def, half_f32, pay_at]
  simp only [pmat_at]
  have ofB : ∀ p : Prop, [Decidable p] → (BitVec.ofBool (decide p) = 1#1 ↔ p) := fun p _ => by
    by_cases hp : p <;> simp [hp]
  rw [ofB, half_lt_sum]
  unfold hit colHit patchIx
  simp only [key]
  constructor
  · rintro ⟨k, ⟨r, hr⟩, hk⟩
    refine ⟨r, ⟨k.val % 32, by omega⟩, lt_of_lt_of_eq hr (congrArg x (congrArg _ (Fin.ext ?_)))⟩
    show k.val = w.val * 32 + k.val % 32
    omega
  · rintro ⟨r, s, hr⟩
    exact ⟨⟨w.val * 32 + s.val, by omega⟩, ⟨r, hr⟩, by show (w.val * 32 + s.val) / 32 = w.val; omega⟩

open Classical in
/-- The class of a position of an image, by the patches of its two channels. -/
theorem cls_at (x : S64x3x512x512.Idx → Ideal .f32) (b : Fin 64) (p : Fin 256) :
    Lanes.cls (F := Ideal) (rowOf (Launch.classes x) b) p.val = if hit x b 1 ⟨p.val / 16, by omega⟩ ⟨p.val % 16, by omega⟩ then 2
      else if hit x b 0 ⟨p.val / 16, by omega⟩ ⟨p.val % 16, by omega⟩ then 0 else 1 := by
  have hb := b.isLt; have hp := p.isLt
  have key : ∀ ch : Fin 2, (rowOf (Launch.classes (F := Ideal) x) b (Lanes.ix512 (256 * ch.val + p.val)))
      = pooled x (pmat (F := Ideal)) (ix4 b ch (⟨p.val / 16, by omega⟩ : Fin 16) (⟨p.val % 16, by omega⟩ : Fin 16)) := fun ch => by
    have hch := ch.isLt
    have hj : rowOf (Launch.classes (F := Ideal) x) b (Lanes.ix512 (256 * ch.val + p.val))
        = Launch.classes (F := Ideal) x (ix2 b (⟨256 * ch.val + p.val, by omega⟩ : Fin 512)) := by
      refine congrArg (Launch.classes (F := Ideal) x) ?_
      funext a; apply Fin.ext
      match a with
      | ⟨0, _⟩ => rfl
      | ⟨1, _⟩ => exact Nat.mod_eq_of_lt (by omega)
    rw [hj]
    unfold Launch.classes
    pointwise
    refine congrArg _ ?_
    funext a; apply Fin.ext
    match a with
    | ⟨0, _⟩ => rfl
    | ⟨1, _⟩ => show (256 * ch.val + p.val) / 256 = ch.val; omega
    | ⟨2, _⟩ => show (256 * ch.val + p.val) / 16 % 16 = p.val / 16; omega
    | ⟨3, _⟩ => show (256 * ch.val + p.val) % 16 = p.val % 16; omega
  have h1 := pooled_gt x b 1 ⟨p.val / 16, by omega⟩ ⟨p.val % 16, by omega⟩
  have h0 := pooled_gt x b 0 ⟨p.val / 16, by omega⟩ ⟨p.val % 16, by omega⟩
  rw [← key 1] at h1
  rw [← key 0] at h0
  have e0 : 256 * (0 : Fin 2).val + p.val = p.val := by simp
  rw [e0] at h0
  unfold Lanes.cls
  exact if_congr h1 rfl (if_congr h0 rfl rfl)

end Cert.Proof.PoolValue
end
-- ==== Proof.Sorted.lean ====
/-
  A stable sort of 256 positions by class: the position it puts at place `k` is the one of rank `k`.
-/
module

public import proofs.«01_k».proof.Proof.Setup
public import Idealize.ShloMosaic.Lib.SortPrefix

@[expose] public section

namespace Cert.Proof.Sorted

open Idealize.ShloMosaic Cert.Proof.Ranks Cert.Proof.Setup

/-- On an increasing list the stable sort never compares a position with a later one the other way round, so a
    relation that breaks ties by position sorts alike. -/
theorem stableSort_ties {n : ℕ} (R R' : Fin n → Fin n → Bool) (l : List (Fin n)) (hl : l.Pairwise (· < ·))
    (h : ∀ a b : Fin n, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- So such a relation sorts the positions alike. -/
theorem sortedFrom_ties {n : ℕ} (R R' : Fin n → Fin n → Bool) (h : ∀ a b : Fin n, a < b → R b a = R' b a) :
    sortedFrom R = sortedFrom R' := by
  funext k
  unfold sortedFrom
  rw [List.get_of_eq (show sortPositions n R = sortPositions n R' from stableSort_ties R R' _ (List.pairwise_lt_finRange n) h)]
  rfl

/-- The classes' comparison, ties broken by position. -/
def byClass (c : ℕ → ℕ) (k k' : Fin 256) : Bool :=
  decide (c k.val < c k'.val) || (decide (c k.val = c k'.val) && decide (k < k'))

/-- By class, then by position, is a strict total order. -/
theorem byClass_total (c : ℕ → ℕ) : StrictTotalBefore (byClass c) :=
  StrictTotalBefore.of_key_then_position (fun a b : ℕ => decide (a < b)) (fun k : Fin 256 => c k.val)
    (fun a => by simp) (fun a b d h h' => by simp only [decide_eq_true_eq] at *; omega)
    (fun a b => by simp only [decide_eq_true_eq]; omega)

/-- What stands before by class and position has the lower rank. -/
theorem byClass_eq_true {c : ℕ → ℕ} {k k' : Fin 256} (h : byClass c k k' = true) : rank c k.val < rank c k'.val := by
  simp only [byClass, Bool.or_eq_true, Bool.and_eq_true, decide_eq_true_eq] at h
  exact rank_lt_of_before k.isLt (h.imp id fun h => ⟨h.1, h.2⟩)

/-- Every rank below 256 is that of the position standing there, itself below 256. -/
theorem rank_posOf {c : ℕ → ℕ} (hc : ∀ j, c j < 3) {k : ℕ} (hk : k < 256) : posOf c k < 256 ∧ rank c (posOf c k) = k := by
  obtain ⟨p, hp, rfl⟩ := exists_rank hc hk
  rw [posOf_rank hp]
  exact ⟨hp, rfl⟩

/-- The stable sort of the positions by class puts at place `k` the position of rank `k`. -/
theorem sortedFrom_class {c : ℕ → ℕ} (hc : ∀ j, c j < 3) (R : Fin 256 → Fin 256 → Bool)
    (hR : ∀ k k', R k k' = decide (c k.val < c k'.val)) (k : Fin 256) : (sortedFrom R k).val = posOf c k.val := by
  have e : sortedFrom R = sortedFrom (byClass c) := by
    refine sortedFrom_ties R (byClass c) fun a b hab => ?_
    rw [hR]
    have : ¬ b < a := not_lt.mpr hab.le
    simp [byClass, this]
  rw [e]
  have hinj : Function.Injective fun i : Fin 256 => (⟨posOf c i.val, (rank_posOf hc i.isLt).1⟩ : Fin 256) := fun i j hij => by
    have h : posOf c i.val = posOf c j.val := congrArg Fin.val hij
    exact Fin.ext (by rw [← (rank_posOf hc i.isLt).2, ← (rank_posOf hc j.isLt).2, h])
  have := (byClass_total c).sortedFrom_eq_of_prefix le_rfl (fun i : Fin 256 => (⟨posOf c i.val, (rank_posOf hc i.isLt).1⟩ : Fin 256))
    hinj (fun i j hij => by
      by_contra hb
      have h := byClass_eq_true (Bool.eq_true_of_not_eq_false hb)
      rw [(rank_posOf hc j.isLt).2, (rank_posOf hc i.isLt).2] at h
      exact absurd hij (not_lt.mpr (Fin.le_def.mpr h.le)))
    (fun i p hp => absurd (Fin.ext (posOf_rank p.isLt)) (hp ⟨rank c p.val, rank_lt hc p.isLt⟩)) k
  exact congrArg Fin.val this

end Cert.Proof.Sorted
-- ==== Proof.RefSort.lean ====
/-
  The reference's sort and scatter: if the keys order as the classes do, the sorted positions are the positions by
  rank, and the scatter of them is the rank of each position.
-/
module

public import proofs.«01_k».proof.Proof.RefTerms
public import proofs.«01_k».proof.Proof.Sorted
public import Idealize.ShloMosaic.Lib.Routing.OpsSet
public import Idealize.ShloMosaic.Lib.Routing.OpsPair
public import Idealize.ShloMosaic.Lib.PointwiseCore
public import Idealize.ShloMosaic.Lib.ValueIdx

@[expose] public section

noncomputable section

namespace Cert.Proof.RefSort

open Cert.ReferenceIdeal Cert.ReferenceIdeal.Gen Cert.Proof.RefTerms Cert.Proof.Sorted Cert.Proof.Ranks Cert.Proof.Setup
open Idealize.ShloMosaic hiding ix2 eq_ix2 ix3
open Idealize.ShloMosaic.ValueIdx (ix2 eq_ix2 ix3)

/-- The comparator over the extended reals is the order of the keys. -/
theorem comparator_eq (l r : Ideal .f32 × BitVec 32) : comparator_f32_i32_d1 (F := Ideal) l r = BitVec.ofBool (decide ((l.1 : EReal) < r.1)) := by
  have hz : ∀ a : EReal, Scalar.select (FloatOps.cmpf (F := Ideal) (φ := .f32) .une a a) (FloatOps.ofBits .f32 0x7FC00000#32 : Ideal .f32)
      (Scalar.select (FloatOps.cmpf (F := Ideal) (φ := .f32) .oeq a (FloatOps.ofBits .f32 0x00000000#32 : Ideal .f32)) (FloatOps.ofBits .f32 0x00000000#32 : Ideal .f32) a) = a := fun a => by
    have h1 : FloatOps.cmpf (F := Ideal) (φ := .f32) .une a a = 0#1 := by
      show BitVec.ofBool (decide (a ≠ a)) = 0#1
      simp
    rw [h1, ValueIdx.select_zero]
    by_cases h : a = (FloatOps.ofBits .f32 0x00000000#32 : Ideal .f32)
    · have h2 : FloatOps.cmpf (F := Ideal) (φ := .f32) .oeq a (FloatOps.ofBits .f32 0x00000000#32 : Ideal .f32) = 1#1 := by
        show BitVec.ofBool (decide (a = _)) = 1#1
        rw [decide_eq_true h]; rfl
      rw [h2, ValueIdx.select_one, h]
    · have h2 : FloatOps.cmpf (F := Ideal) (φ := .f32) .oeq a (FloatOps.ofBits .f32 0x00000000#32 : Ideal .f32) = 0#1 := by
        show BitVec.ofBool (decide (a = _)) = 0#1
        rw [decide_eq_false h]; rfl
      rw [h2, ValueIdx.select_zero]
  show FloatOps.cmpfTotal (F := Ideal) (φ := .f32) .lt _ _ = _
  rw [hz, hz]
  rfl

/-- A place of a matrix moved along its row. -/
theorem along_row {m n : ℕ} (b : Fin m) (p q : Fin n) : Shape.Idx.along (s := ⟨2, ![m, n]⟩) (ix2 b p) (1 : Fin 2) q = ix2 b q := by
  funext a; match a with | ⟨0, _⟩ => rfl | ⟨1, _⟩ => rfl

/-- A sort of pairs along the rows of a matrix, its second result read at a place. -/
theorem sort2_rows {m n : ℕ} {α β : Type} (cmp : α × β → α × β → BitVec 1) (x : (⟨2, ![m, n]⟩ : Shape).Idx → α) (y : (⟨2, ![m, n]⟩ : Shape).Idx → β)
    (b : Fin m) (j : Fin n) :
    (Host.sort2 ⟨2, ![m, n]⟩ 1 cmp x y).2 (ix2 b j)
      = y (ix2 b (sortedFrom (fun p q : Fin n => cmp (x (ix2 b p), y (ix2 b p)) (x (ix2 b q), y (ix2 b q)) == 1#1) j)) := by
  unfold Host.sort2
  rw [dif_pos (show 1 < (⟨2, ![m, n]⟩ : Shape).rank from Nat.one_lt_two)]
  show y (Shape.Idx.along (s := ⟨2, ![m, n]⟩) (ix2 b j) (1 : Fin 2) (sortedFrom (fun p q : Fin n =>
    cmp (x (Shape.Idx.along (s := ⟨2, ![m, n]⟩) (ix2 b j) (1 : Fin 2) p), y (Shape.Idx.along (s := ⟨2, ![m, n]⟩) (ix2 b j) (1 : Fin 2) p))
      (x (Shape.Idx.along (s := ⟨2, ![m, n]⟩) (ix2 b j) (1 : Fin 2) q), y (Shape.Idx.along (s := ⟨2, ![m, n]⟩) (ix2 b j) (1 : Fin 2) q)) == 1#1) j)) = _
  simp only [along_row]
  exact congrArg y (along_row b j _)

/-- Where the keys of every row order as its classes do, the sort leaves the position of rank `k` at place `k`. -/
theorem sortR_eq {k : S64x256.Idx → Ideal .f32} {c : Fin 64 → ℕ → ℕ} (hc : ∀ b j, c b j < 3)
    (hk : ∀ (b : Fin 64) (p q : Fin 256), ((k (ix2 b p) : EReal) < k (ix2 b q)) ↔ c b p.val < c b q.val) (b : Fin 64) (j : Fin 256) :
    sortR k (ix2 b j) = BitVec.ofNat 32 (posOf (c b) j.val) := by
  unfold sortR
  rw [sort2_rows]
  show BitVec.ofNat 32 (sortedFrom _ j).val = _
  rw [sortedFrom_class (hc b) _ (fun p q => ?_) j]
  rw [comparator_eq]
  show (BitVec.ofBool (decide ((k (ix2 b p) : EReal) < k (ix2 b q))) == 1#1) = _
  rw [show decide ((k (ix2 b p) : EReal) < k (ix2 b q)) = decide (c b p.val < c b q.val) from decide_eq_decide.mpr (hk _ _ _)]
  cases decide (c b p.val < c b q.val) <;> rfl

/-- Where the scatter's row word stands, the row. -/
theorem idxR_row {v : S64x256.Idx → BitVec 32} (a : Fin 64) (b : Fin 256) : idxR v (ix3 a b 0) = BitVec.ofNat 32 a.val := by
  unfold idxR
  pointwise
  exact Routing.wrap_of_lt _ _ (by
    rw [BitVec.toNat_ofNat]
    exact Nat.lt_of_le_of_lt (Nat.mod_le _ _) (by have := a.isLt; show a.val < 2 ^ 31; omega))

/-- Beside it, the position. -/
theorem idxR_pos {v : S64x256.Idx → BitVec 32} (a : Fin 64) (b : Fin 256) (h : (v (ix2 a b)).toNat < 2 ^ 31) : idxR v (ix3 a b 1) = v (ix2 a b) := by
  unfold idxR
  pointwise
  rw [ix2_eq_valueIdx]
  exact Routing.wrap_of_lt _ _ h

/-- A number below the sign bit reads back as itself. -/
theorem toInt_small {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- The scatter of the positions by rank is the rank of each position. -/
theorem scatR_eq {v : S64x256.Idx → BitVec 32} {c : Fin 64 → ℕ → ℕ} (hc : ∀ b j, c b j < 3)
    (hv : ∀ (b : Fin 64) (j : Fin 256), v (ix2 b j) = BitVec.ofNat 32 (posOf (c b) j.val)) (b : Fin 64) (p : Fin 256) :
    scatR v (ix2 b p) = BitVec.ofNat 32 (rank (c b) p.val) := by
  have hp : ∀ (b : Fin 64) (j : Fin 256), posOf (c b) j.val < 256 := fun b j => (rank_posOf (hc b) j.isLt).1
  have hl : ∀ (a : Fin 64) (j : Fin 256), scatter_S64x256_S64x256x2_S64x256_n_01_01_2.resultIdx? (ix2 a j) (idxR v) = some (ix2 b p) ↔ a = b ∧ posOf (c a) j.val = p.val := fun a j => by
    refine (Routing.scatter_lands2 (R := 64) (C := 256) (A := 64) (B := 256) scatter_S64x256_S64x256x2_S64x256_n_01_01_2 rfl rfl rfl (idxR v) a j b p).trans ?_
    have h := hp a j
    have h2 : (v (ix2 a j)).toNat < 2 ^ 31 := by
      rw [hv, BitVec.toNat_ofNat]
      exact Nat.lt_of_le_of_lt (Nat.mod_le _ _) (by omega)
    rw [idxR_row, idxR_pos a j h2, hv, toInt_small (by have := a.isLt; omega), toInt_small (by omega)]
    constructor
    · rintro ⟨h1, h2⟩; exact ⟨Fin.ext (by exact_mod_cast h1), by exact_mod_cast h2⟩
    · rintro ⟨rfl, h2⟩; exact ⟨rfl, by exact_mod_cast h2⟩
  have hu : ∀ (a : Fin 64) (j : Fin 256), broadcastInDim S64x256 ![0, 1] bcast_S1x256_S64x256_0_1 (broadcastInDim S1x256 ![1] bcast_S256_S1x256_1 (iotaInDim S256 32 0)) (ix2 a j) = BitVec.ofNat 32 j.val := fun a j => by
    pointwise
  unfold scatR
  refine Routing.scatter_set_hit _ _ _ _ _ _ (fun k h => ?_) (ix2 b ⟨rank (c b) p.val, rank_lt (hc b) p.isLt⟩) ((hl _ _).mpr ⟨rfl, posOf_rank p.isLt⟩)
  obtain ⟨a, j, rfl⟩ : ∃ (a : Fin 64) (j : Fin 256), k = ix2 a j := ⟨k 0, k 1, eq_ix2 k⟩
  obtain ⟨e1, e2⟩ := (hl a j).mp h
  rw [hu, ← e2, e1, (rank_posOf (hc b) j.isLt).2]

end Cert.Proof.RefSort

end
-- ==== Proof.Algebra.lean ====
/-
  The kernel and the reference give the same results over the extended reals: the reference sorts positions by keys that
  are ordered as the kernel's classes, so both give the order of the classes and its inverse.
-/
module

public import proofs.«01_k».proof.Proof.PoolValue
public import proofs.«01_k».proof.Proof.RefSort
public import proofs.«01_k».proof.Proof.Frames
public import proofs.«01_k».proof.Proof.Gen.ReferenceIdeal.Run

@[expose] public section

noncomputable section

namespace Cert.Proof.Algebra

open Cert.Proof.RefTerms Cert.Proof.RefSort Cert.Proof.Setup
open Cert.Proof.RefMask (hit keyR_at)
open Cert.Proof.PoolValue (cls_at)
open Idealize.SL.Sem
open Idealize.ShloMosaic hiding ix2 eq_ix2 ix3 ix4 eq_ix4
open Idealize.ShloMosaic.ValueIdx (ix2 eq_ix2)

/-- Two's, zero's and one's order as keys is their order as classes. -/
theorem key_lt (A B A' B' : Prop) [Decidable A] [Decidable B] [Decidable A'] [Decidable B'] :
    ((if A then (2 : EReal) else if B then 0 else 1) < (if A' then (2 : EReal) else if B' then 0 else 1)) ↔
      (if A then 2 else if B then 0 else 1 : ℕ) < (if A' then 2 else if B' then 0 else 1 : ℕ) := by
  have e : ∀ (P Q : Prop) [Decidable P] [Decidable Q],
      (if P then (2 : EReal) else if Q then 0 else 1) = (((if P then 2 else if Q then 0 else 1 : ℕ) : ℕ) : EReal) := fun P Q _ _ => by
    split_ifs <;> norm_num
  rw [e, e, Nat.cast_lt]

/-- An array of images. -/
abbrev Img : Type := Cert.KernelIdeal.S64x3x512x512.Idx → Ideal .f32

/-- An image's classes by position. -/
abbrev cl (x : Img) (b : Fin 64) : ℕ → ℕ := Lanes.cls (F := Ideal) (rowOf (Launch.classes x) b)

open Classical in
/-- The keys of an image are ordered as its classes. -/
theorem keys (x : Img) (b : Fin 64) (p q : Fin 256) :
    ((keyR (F := Ideal) x (ix2 b p) : EReal) < keyR (F := Ideal) x (ix2 b q)) ↔ cl x b p.val < cl x b q.val := by
  rw [keyR_at, keyR_at]
  unfold cl
  rw [cls_at, cls_at]
  exact key_lt _ _ _ _

/-- The reference's sorted positions, place by place. -/
theorem sort_at (x : Img) (b : Fin 64) (j : Fin 256) : sortR (keyR (F := Ideal) x) (ix2 b j) = BitVec.ofNat 32 (posOf (cl x b) j.val) :=
  sortR_eq (c := cl x) (fun _ _ => Lanes.cls_lt _ _) (keys x) b j

/-- The reference's scattered positions, place by place. -/
theorem scat_at (x : Img) (b : Fin 64) (p : Fin 256) :
    scatR (sortR (keyR (F := Ideal) x)) (ix2 b p) = BitVec.ofNat 32 (Ranks.rank (cl x b) p.val) :=
  scatR_eq (c := cl x) (fun _ _ => Lanes.cls_lt _ _) (sort_at x) b p

/-- The reference's sorted positions are the kernel's first array. -/
theorem sort_eq (x : Img) : sortR (keyR (F := Ideal) x) = imapF (F := Ideal) (Launch.classes x) := by
  funext i
  obtain ⟨b, j, rfl⟩ : ∃ (b : Fin 64) (j : Fin 256), i = ix2 b j := ⟨i 0, i 1, eq_ix2 i⟩
  exact sort_at x b j

/-- The reference's scattered positions are the kernel's second array. -/
theorem scat_eq (x : Img) : scatR (sortR (keyR (F := Ideal) x)) = invF (F := Ideal) (Launch.classes x) := by
  funext i
  obtain ⟨b, p, rfl⟩ : ∃ (b : Fin 64) (p : Fin 256), i = ix2 b p := ⟨i 0, i 1, eq_ix2 i⟩
  exact scat_at x b p

/-- The kernel and the reference end with the same three arrays. -/
theorem algebraic : Cert.algebraic_KernelIdeal_ReferenceIdeal := fun m g m' g' _ hm =>
  ⟨fun _ => broadcastInDim Cert.KernelIdeal.S64x256 ![0, 1] Cert.KernelIdeal.Gen.bcast_S64x1_S64x256_0_1
      (broadcastInDim Cert.KernelIdeal.S64x1 ![0] Cert.KernelIdeal.Gen.bcast_S64_S64x1_0 (iotaInDim Cert.KernelIdeal.S64 32 0)),
    fun c => imapF (F := Ideal) (Launch.classes (m ((c.tc : Thread Cert.KernelIdeal.nD Cert.KernelIdeal.τ).loc Cert.KernelIdeal.main_arg0))),
    fun c => invF (F := Ideal) (Launch.classes (m ((c.tc : Thread Cert.KernelIdeal.nD Cert.KernelIdeal.τ).loc Cert.KernelIdeal.main_arg0))),
    (θ_run Cert.KernelIdeal.defs _ _).mono (fun _ h => h.1) (Launch.run_main (F := Ideal) m g),
    (θ_run Cert.ReferenceIdeal.defs _ _).mono
      (fun _ h c => ⟨(h c).1,
        (h c).2.1.trans ((res20 m' c).trans ((congrArg (fun x => sortR (keyR (F := Ideal) x)) (hm c)).trans (sort_eq _))),
        (h c).2.2.1.trans ((res41 m' c).trans ((congrArg (fun x => scatR (sortR (keyR (F := Ideal) x))) (hm c)).trans (scat_eq _))),
        (h c).2.2.2⟩)
      (Cert.ReferenceIdeal.Value.run (F := Ideal) m' g')⟩

end Cert.Proof.Algebra
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebra

@[expose] public section

noncomputable section

namespace Cert.Proof

theorem claim : Cert.Claim := ⟨Cert.Kernel.Gen.facts, Cert.KernelIdeal.Gen.facts, Cert.ReferenceIdeal.Gen.facts,
  Frames.frame_kernel, Frames.frame_ideal, Frames.frame_reference, trivial, Algebra.algebraic⟩

end Cert.Proof

end
